-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_cube [hPre_unit_cube : Cert.Pre_unit_cube.Facts] (m : (ℓ : Loc Cert.KernelIdeal.nD Cert.KernelIdeal.τ Cert.KernelIdeal.sig) → Buf (Elt Ideal) ℓ) : Prop :=
  ∀ c : Dev Cert.KernelIdeal.nD,
    (Cert.Pre_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_cube [hPre_unit_cube : Cert.Pre_unit_cube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_unit_cube [hKernelIdeal : Cert.KernelIdeal.Facts] [hPre_unit_cube : Cert.Pre_unit_cube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_cube m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_unit_cube [hReferenceIdeal : Cert.ReferenceIdeal.Facts] [hPre_unit_cube : Cert.Pre_unit_cube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_cube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_unit_cube [hKernelIdeal : Cert.KernelIdeal.Facts] [hReferenceIdeal : Cert.ReferenceIdeal.Facts] [hPre_unit_cube : Cert.Pre_unit_cube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_cube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_v290) = v1 c
          ∧ r.2.mem ((c.tc : Thread Cert.ReferenceIdeal.nD Cert.ReferenceIdeal.τ).loc Cert.ReferenceIdeal.main_v294) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_unit_cube : Cert.Pre_unit_cube.Facts),
    quiescent_Kernel (hKernel := hKernel)
    ∧ quiescent_KernelIdeal (hKernelIdeal := hKernelIdeal)
    ∧ quiescent_KernelIdeal_pre_unit_cube (hKernelIdeal := hKernelIdeal) (hPre_unit_cube := hPre_unit_cube)
    ∧ quiescent_ReferenceIdeal (hReferenceIdeal := hReferenceIdeal)
    ∧ quiescent_ReferenceIdeal_pre_unit_cube (hReferenceIdeal := hReferenceIdeal) (hPre_unit_cube := hPre_unit_cube)
    ∧ preserves_Kernel_KernelIdeal
    ∧ algebraic_KernelIdeal_ReferenceIdeal_pre_unit_cube (hKernelIdeal := hKernelIdeal) (hReferenceIdeal := hReferenceIdeal) (hPre_unit_cube := hPre_unit_cube)
-- ==== Pre_unit_cube.lean ====
abbrev S65536x6 : Shape := ⟨2, ![65536, 6]⟩
abbrev S65536x8x3 : Shape := ⟨3, ![65536, 8, 3]⟩
abbrev S65536x64 : Shape := ⟨2, ![65536, 64]⟩
abbrev S8 : Shape := ⟨1, ![8]⟩
abbrev S8x1 : Shape := ⟨2, ![8, 1]⟩
abbrev S8x3 : Shape := ⟨2, ![8, 3]⟩
abbrev S1x8x3 : Shape := ⟨3, ![1, 8, 3]⟩

class Facts : Prop where
  bcast_S8_S8x1_0 : S8.BroadcastsInDim S8x1 (![0] : Fin 1 → Fin S8x1.rank)
  concatenates_S8x1_S8x1_S8x1_S8x3_d1 : Shape.Concatenates [S8x1, S8x1, S8x1] S8x3 1
  bcast_S8x3_S1x8x3_1_2 : S8x3.BroadcastsInDim S1x8x3 (![1, 2] : Fin 2 → Fin S1x8x3.rank)
  bcast_S1x8x3_S65536x8x3_0_1_2 : S1x8x3.BroadcastsInDim S65536x8x3 (![0, 1, 2] : Fin 3 → Fin S65536x8x3.rank)

variable [Facts]

noncomputable abbrev lit0 : Fin 8 → BitVec 32 := fun
  | 0 => 0xBF800000#32 | 1 => 0x3F800000#32 | 2 => 0x3F800000#32 | 3 => 0xBF800000#32 | 4 => 0xBF800000#32 | 5 => 0x3F800000#32 | 6 => 0x3F800000#32 | 7 => 0xBF800000#32
  | _ => 0#32

noncomputable abbrev lit1 : Fin 8 → BitVec 32 := fun
  | 0 => 0xBF800000#32 | 1 => 0xBF800000#32 | 2 => 0x3F800000#32 | 3 => 0x3F800000#32 | 4 => 0xBF800000#32 | 5 => 0xBF800000#32 | 6 => 0x3F800000#32 | 7 => 0x3F800000#32
  | _ => 0#32

noncomputable abbrev lit2 : Fin 8 → BitVec 32 := fun
  | 0 => 0xBF800000#32 | 1 => 0xBF800000#32 | 2 => 0xBF800000#32 | 3 => 0xBF800000#32 | 4 => 0x3F800000#32 | 5 => 0x3F800000#32 | 6 => 0x3F800000#32 | 7 => 0x3F800000#32
  | _ => 0#32

def fn {F : FTy → Type} [FloatOps F] (main_arg0 : FVec F S65536x6 .f32) (main_arg1 : FVec F S65536x8x3 .f32) (main_arg2 : FVec F S65536x64 .f32) : IVec S65536x8x3 1 :=
  let main_cst : FVec F S8 .f32 := fun i => FloatOps.ofBits .f32 (lit0 (S8.rowMajor i))
  let main_cst_0 : FVec F S8 .f32 := fun i => FloatOps.ofBits .f32 (lit1 (S8.rowMajor i))
  let main_cst_1 : FVec F S8 .f32 := fun i => FloatOps.ofBits .f32 (lit2 (S8.rowMajor i))
  let main_v0 : FVec F S8x1 .f32 := broadcastInDim S8x1 ![0] bcast_S8_S8x1_0 main_cst
  let main_v1 : FVec F S8x1 .f32 := broadcastInDim S8x1 ![0] bcast_S8_S8x1_0 main_cst_0
  let main_v2 : FVec F S8x1 .f32 := broadcastInDim S8x1 ![0] bcast_S8_S8x1_0 main_cst_1
  let main_v3 : FVec F S8x3 .f32 := concatenate S8x3 1 [⟨S8x1, main_v0⟩, ⟨S8x1, main_v1⟩, ⟨S8x1, main_v2⟩] concatenates_S8x1_S8x1_S8x1_S8x3_d1
  let main_v4 : FVec F S1x8x3 .f32 := broadcastInDim S1x8x3 ![1, 2] bcast_S8x3_S1x8x3_1_2 main_v3
  let main_v5 : FVec F S65536x8x3 .f32 := broadcastInDim S65536x8x3 ![0, 1, 2] bcast_S1x8x3_S65536x8x3_0_1_2 main_v4
  let main_v6 : IVec S65536x8x3 1 := cmpf .oeq main_arg1 main_v5
  main_v6
-- ==== Kernel.lean ====
abbrev S65536x6 : Shape := ⟨2, ![65536, 6]⟩
abbrev S65536x8x3 : Shape := ⟨3, ![65536, 8, 3]⟩
abbrev S65536x64 : Shape := ⟨2, ![65536, 64]⟩
abbrev S6x65536 : Shape := ⟨2, ![6, 65536]⟩
abbrev S64x65536 : Shape := ⟨2, ![64, 65536]⟩
abbrev S192x65536 : Shape := ⟨2, ![192, 65536]⟩
abbrev S1x65536 : Shape := ⟨2, ![1, 65536]⟩
abbrev S65536x64x1 : Shape := ⟨3, ![65536, 64, 1]⟩
abbrev S3x64x65536 : Shape := ⟨3, ![3, 64, 65536]⟩
abbrev S65536x64x3 : Shape := ⟨3, ![65536, 64, 3]⟩
abbrev S65536 : Shape := ⟨1, ![65536]⟩
abbrev S_ : Shape := ⟨0, ![]⟩
abbrev S6x16384 : Shape := ⟨2, ![6, 16384]⟩
abbrev S64x16384 : Shape := ⟨2, ![64, 16384]⟩
abbrev S192x16384 : Shape := ⟨2, ![192, 16384]⟩
abbrev S1x16384 : Shape := ⟨2, ![1, 16384]⟩
abbrev S64x1 : Shape := ⟨2, ![64, 1]⟩

abbrev nBuf : Space → Nat
  | .hbm => 16
  | .vmem => 10
  | .smem => 0
  | _ => 0

abbrev bufTy : (tb : Table) → Fin (tcTables nBuf tb) → BufTy
  | .hbm, ⟨0, _⟩ => ⟨S65536x6, .f32⟩
  | .hbm, ⟨1, _⟩ => ⟨S65536x8x3, .f32⟩
  | .hbm, ⟨2, _⟩ => ⟨S65536x64, .f32⟩
  | .hbm, ⟨3, _⟩ => ⟨S6x65536, .f32⟩
  | .hbm, ⟨4, _⟩ => ⟨S64x65536, .f32⟩
  | .hbm, ⟨5, _⟩ => ⟨S64x65536, .f32⟩
  | .hbm, ⟨6, _⟩ => ⟨S192x65536, .f32⟩
  | .hbm, ⟨7, _⟩ => ⟨S1x65536, .f32⟩
  | .hbm, ⟨8, _⟩ => ⟨S65536x64, .f32⟩
  | .hbm, ⟨9, _⟩ => ⟨S65536x64x1, .f32⟩
  | .hbm, ⟨10, _⟩ => ⟨S3x64x65536, .f32⟩
  | .hbm, ⟨11, _⟩ => ⟨S65536x64x3, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .i1⟩
  | .local _ .vmem, ⟨0, _⟩ => ⟨S6x16384, .f32⟩
  | .local _ .vmem, ⟨1, _⟩ => ⟨S6x16384, .f32⟩
  | .local _ .vmem, ⟨2, _⟩ => ⟨S64x16384, .f32⟩
  | .local _ .vmem, ⟨3, _⟩ => ⟨S64x16384, .f32⟩
  | .local _ .vmem, ⟨4, _⟩ => ⟨S64x16384, .f32⟩
  | .local _ .vmem, ⟨5, _⟩ => ⟨S64x16384, .f32⟩
  | .local _ .vmem, ⟨6, _⟩ => ⟨S192x16384, .f32⟩
  | .local _ .vmem, ⟨7, _⟩ => ⟨S192x16384, .f32⟩
  | .local _ .vmem, ⟨8, _⟩ => ⟨S1x16384, .f32⟩
  | .local _ .vmem, ⟨9, _⟩ => ⟨S1x16384, .f32⟩
  | _, _ => ⟨S65536x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v2_2 : Ref sig .tc := ⟨.hbm, 7, rfl⟩
abbrev main_call0_v3 : Ref sig .tc := ⟨.hbm, 8, rfl⟩
abbrev main_v0_0 : Ref sig .tc := ⟨.hbm, 9, rfl⟩
abbrev main_call0_v5 : Ref sig .tc := ⟨.hbm, 10, rfl⟩
abbrev main_v0_1 : Ref sig .tc := ⟨.hbm, 11, rfl⟩
abbrev main_call0_v7 : Ref sig .tc := ⟨.hbm, 12, rfl⟩
abbrev main_call0_cst : Ref sig .tc := ⟨.hbm, 13, rfl⟩
abbrev main_call0_v8 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S65536x6 : Shape := ⟨2, ![65536, 6]⟩
abbrev S65536x8x3 : Shape := ⟨3, ![65536, 8, 3]⟩
abbrev S65536x64 : Shape := ⟨2, ![65536, 64]⟩
abbrev S64 : Shape := ⟨1, ![64]⟩
abbrev S1x64 : Shape := ⟨2, ![1, 64]⟩
abbrev S65536x1x1 : Shape := ⟨3, ![65536, 1, 1]⟩
abbrev S65536 : Shape := ⟨1, ![65536]⟩
abbrev S65536x1 : Shape := ⟨2, ![65536, 1]⟩
abbrev S_ : Shape := ⟨0, ![]⟩
abbrev S65536x3 : Shape := ⟨2, ![65536, 3]⟩
abbrev S1 : Shape := ⟨1, ![1]⟩
abbrev S65536x2 : Shape := ⟨2, ![65536, 2]⟩
abbrev S65536x64x1 : Shape := ⟨3, ![65536, 64, 1]⟩
abbrev S65536x1x3 : Shape := ⟨3, ![65536, 1, 3]⟩
abbrev S65536x64x3 : Shape := ⟨3, ![65536, 64, 3]⟩

abbrev nBuf : Space → Nat
  | .hbm => 317
  | .vmem => 0
  | .smem => 0
  | _ => 0

abbrev hbmTy0_0 (i : Nat) : BufTy := match i % 128 with
  | 0 => ⟨S65536x6, .f32⟩
  | 1 => ⟨S65536x8x3, .f32⟩
  | 2 => ⟨S65536x64, .f32⟩
  | 3 => ⟨S64, .f32⟩
  | 4 => ⟨S1x64, .f32⟩
  | 5 => ⟨S65536x1x1, .f32⟩
  | 6 => ⟨S65536, .f32⟩
  | 7 => ⟨S65536x1x1, .f32⟩
  | 8 => ⟨S65536, .f32⟩
  | 9 => ⟨S65536x1x1, .f32⟩
  | 10 => ⟨S65536, .f32⟩
  | 11 => ⟨S65536x1x1, .f32⟩
  | 12 => ⟨S65536, .f32⟩
  | 13 => ⟨S65536x1x1, .f32⟩
  | 14 => ⟨S65536, .f32⟩
  | 15 => ⟨S65536x1x1, .f32⟩
  | 16 => ⟨S65536, .f32⟩
  | 17 => ⟨S65536x1, .f32⟩
  | 18 => ⟨S65536, .f32⟩
  | 19 => ⟨S65536, .f32⟩
  | 20 => ⟨S65536x1, .f32⟩
  | 21 => ⟨S65536, .f32⟩
  | 22 => ⟨S_, .f32⟩
  | 23 => ⟨S65536, .f32⟩
  | 24 => ⟨S65536, .f32⟩
  | 25 => ⟨S65536, .f32⟩
  | 26 => ⟨S65536x1, .f32⟩
  | 27 => ⟨S65536x1, .f32⟩
  | 28 => ⟨S65536, .f32⟩
  | 29 => ⟨S65536, .f32⟩
  | 30 => ⟨S65536x1, .f32⟩
  | 31 => ⟨S65536, .f32⟩
  | 32 => ⟨S_, .f32⟩
  | 33 => ⟨S65536, .f32⟩
  | 34 => ⟨S65536, .f32⟩
  | 35 => ⟨S65536, .f32⟩
  | 36 => ⟨S65536x1, .f32⟩
  | 37 => ⟨S65536x1, .f32⟩
  | 38 => ⟨S65536, .f32⟩
  | 39 => ⟨S65536, .f32⟩
  | 40 => ⟨S65536x1, .f32⟩
  | 41 => ⟨S65536, .f32⟩
  | 42 => ⟨S_, .f32⟩
  | 43 => ⟨S65536, .f32⟩
  | 44 => ⟨S65536, .f32⟩
  | 45 => ⟨S65536, .f32⟩
  | 46 => ⟨S65536x1, .f32⟩
  | 47 => ⟨S65536x1, .f32⟩
  | 48 => ⟨S65536, .f32⟩
  | 49 => ⟨S65536, .f32⟩
  | 50 => ⟨S65536x1, .f32⟩
  | 51 => ⟨S65536, .f32⟩
  | 52 => ⟨S_, .f32⟩
  | 53 => ⟨S65536, .f32⟩
  | 54 => ⟨S65536, .f32⟩
  | 55 => ⟨S65536, .f32⟩
  | 56 => ⟨S65536x1, .f32⟩
  | 57 => ⟨S65536x1, .f32⟩
  | 58 => ⟨S65536, .f32⟩
  | 59 => ⟨S65536, .f32⟩
  | 60 => ⟨S65536x1, .f32⟩
  | 61 => ⟨S65536, .f32⟩
  | 62 => ⟨S_, .f32⟩
  | 63 => ⟨S65536, .f32⟩
  | 64 => ⟨S65536, .f32⟩
  | 65 => ⟨S65536, .f32⟩
  | 66 => ⟨S65536x1, .f32⟩
  | 67 => ⟨S65536x1, .f32⟩
  | 68 => ⟨S65536, .f32⟩
  | 69 => ⟨S65536, .f32⟩
  | 70 => ⟨S65536x1, .f32⟩
  | 71 => ⟨S65536, .f32⟩
  | 72 => ⟨S_, .f32⟩
  | 73 => ⟨S65536, .f32⟩
  | 74 => ⟨S65536, .f32⟩
  | 75 => ⟨S65536, .f32⟩
  | 76 => ⟨S65536x1, .f32⟩
  | 77 => ⟨S65536x3, .f32⟩
  | 78 => ⟨S65536x3, .f32⟩
  | 79 => ⟨S65536x3, .f32⟩
  | 80 => ⟨S65536x3, .f32⟩
  | 81 => ⟨S65536x3, .f32⟩
  | 82 => ⟨S65536x3, .f32⟩
  | 83 => ⟨S65536x3, .f32⟩
  | 84 => ⟨S65536x3, .f32⟩
  | 85 => ⟨S65536x3, .f32⟩
  | 86 => ⟨S65536x3, .f32⟩
  | 87 => ⟨S65536x3, .f32⟩
  | 88 => ⟨S65536x3, .f32⟩
  | 89 => ⟨S65536x3, .f32⟩
  | 90 => ⟨S65536x3, .f32⟩
  | 91 => ⟨S65536x3, .f32⟩
  | 92 => ⟨S65536x3, .f32⟩
  | 93 => ⟨S65536x3, .f32⟩
  | 94 => ⟨S65536x3, .f32⟩
  | 95 => ⟨S65536x3, .f32⟩
  | 96 => ⟨S65536x3, .f32⟩
  | 97 => ⟨S65536x1, .f32⟩
  | 98 => ⟨S65536, .f32⟩
  | 99 => ⟨S65536x1x1, .f32⟩
  | 100 => ⟨S65536, .f32⟩
  | 101 => ⟨S65536, .i1⟩
  | 102 => ⟨S65536x1, .f32⟩
  | 103 => ⟨S65536, .f32⟩
  | 104 => ⟨S65536x1x1, .f32⟩
  | 105 => ⟨S65536, .f32⟩
  | 106 => ⟨S65536, .i1⟩
  | 107 => ⟨S65536, .i1⟩
  | 108 => ⟨S65536x1, .f32⟩
  | 109 => ⟨S65536, .f32⟩
  | 110 => ⟨S65536x1x1, .f32⟩
  | 111 => ⟨S65536, .f32⟩
  | 112 => ⟨S65536, .i1⟩
  | 113 => ⟨S65536, .i1⟩
  | 114 => ⟨S65536x1, .f32⟩
  | 115 => ⟨S65536, .f32⟩
  | 116 => ⟨S65536x1x1, .f32⟩
  | 117 => ⟨S65536, .f32⟩
  | 118 => ⟨S65536, .i1⟩
  | 119 => ⟨S65536, .i1⟩
  | 120 => ⟨S65536x1, .f32⟩
  | 121 => ⟨S65536, .f32⟩
  | 122 => ⟨S65536x1x1, .f32⟩
  | 123 => ⟨S65536, .f32⟩
  | 124 => ⟨S65536, .i1⟩
  | 125 => ⟨S65536x1, .f32⟩
  | 126 => ⟨S65536, .f32⟩
  | 127 => ⟨S65536x1x1, .f32⟩
  | _ => ⟨S65536x6, .f32⟩

abbrev hbmTy0_1 (i : Nat) : BufTy := match i % 128 with
  | 0 => ⟨S65536, .f32⟩
  | 1 => ⟨S65536, .i1⟩
  | 2 => ⟨S65536, .i1⟩
  | 3 => ⟨S65536x1, .f32⟩
  | 4 => ⟨S65536, .f32⟩
  | 5 => ⟨S65536x1x1, .f32⟩
  | 6 => ⟨S65536, .f32⟩
  | 7 => ⟨S65536, .i1⟩
  | 8 => ⟨S65536, .i1⟩
  | 9 => ⟨S65536x1, .f32⟩
  | 10 => ⟨S65536, .f32⟩
  | 11 => ⟨S65536x1x1, .f32⟩
  | 12 => ⟨S65536, .f32⟩
  | 13 => ⟨S65536, .i1⟩
  | 14 => ⟨S65536, .i1⟩
  | 15 => ⟨S65536x1, .f32⟩
  | 16 => ⟨S65536, .f32⟩
  | 17 => ⟨S65536x1x1, .f32⟩
  | 18 => ⟨S65536, .f32⟩
  | 19 => ⟨S65536, .i1⟩
  | 20 => ⟨S65536x1, .f32⟩
  | 21 => ⟨S65536, .f32⟩
  | 22 => ⟨S65536x1x1, .f32⟩
  | 23 => ⟨S65536, .f32⟩
  | 24 => ⟨S65536, .i1⟩
  | 25 => ⟨S65536, .i1⟩
  | 26 => ⟨S65536x1, .f32⟩
  | 27 => ⟨S65536, .f32⟩
  | 28 => ⟨S65536x1x1, .f32⟩
  | 29 => ⟨S65536, .f32⟩
  | 30 => ⟨S65536, .i1⟩
  | 31 => ⟨S65536, .i1⟩
  | 32 => ⟨S65536x1, .f32⟩
  | 33 => ⟨S65536, .f32⟩
  | 34 => ⟨S65536x1x1, .f32⟩
  | 35 => ⟨S65536, .f32⟩
  | 36 => ⟨S65536, .i1⟩
  | 37 => ⟨S65536, .i1⟩
  | 38 => ⟨S65536x1, .f32⟩
  | 39 => ⟨S65536, .f32⟩
  | 40 => ⟨S65536x1x1, .f32⟩
  | 41 => ⟨S65536, .f32⟩
  | 42 => ⟨S65536, .i1⟩
  | 43 => ⟨S65536x1, .f32⟩
  | 44 => ⟨S65536, .f32⟩
  | 45 => ⟨S65536x1x1, .f32⟩
  | 46 => ⟨S65536, .f32⟩
  | 47 => ⟨S65536, .i1⟩
  | 48 => ⟨S65536, .i1⟩
  | 49 => ⟨S65536x1, .f32⟩
  | 50 => ⟨S65536, .f32⟩
  | 51 => ⟨S65536x1x1, .f32⟩
  | 52 => ⟨S65536, .f32⟩
  | 53 => ⟨S65536, .i1⟩
  | 54 => ⟨S65536, .i1⟩
  | 55 => ⟨S65536x1, .f32⟩
  | 56 => ⟨S65536, .f32⟩
  | 57 => ⟨S65536x1x1, .f32⟩
  | 58 => ⟨S65536, .f32⟩
  | 59 => ⟨S65536, .i1⟩
  | 60 => ⟨S65536, .i1⟩
  | 61 => ⟨S65536x1, .f32⟩
  | 62 => ⟨S65536, .f32⟩
  | 63 => ⟨S65536x1x1, .f32⟩
  | 64 => ⟨S65536, .f32⟩
  | 65 => ⟨S65536, .i1⟩
  | 66 => ⟨S65536x1, .f32⟩
  | 67 => ⟨S65536, .f32⟩
  | 68 => ⟨S65536x1x1, .f32⟩
  | 69 => ⟨S65536, .f32⟩
  | 70 => ⟨S65536, .i1⟩
  | 71 => ⟨S65536, .i1⟩
  | 72 => ⟨S65536x1, .f32⟩
  | 73 => ⟨S65536, .f32⟩
  | 74 => ⟨S65536x1x1, .f32⟩
  | 75 => ⟨S65536, .f32⟩
  | 76 => ⟨S65536, .i1⟩
  | 77 => ⟨S65536, .i1⟩
  | 78 => ⟨S65536x1, .f32⟩
  | 79 => ⟨S65536, .f32⟩
  | 80 => ⟨S65536x1x1, .f32⟩
  | 81 => ⟨S65536, .f32⟩
  | 82 => ⟨S65536, .i1⟩
  | 83 => ⟨S65536, .i1⟩
  | 84 => ⟨S65536x1, .f32⟩
  | 85 => ⟨S65536, .f32⟩
  | 86 => ⟨S65536x1x1, .f32⟩
  | 87 => ⟨S65536, .f32⟩
  | 88 => ⟨S65536, .i1⟩
  | 89 => ⟨S65536x1, .f32⟩
  | 90 => ⟨S65536, .f32⟩
  | 91 => ⟨S65536x1x1, .f32⟩
  | 92 => ⟨S65536, .f32⟩
  | 93 => ⟨S65536, .i1⟩
  | 94 => ⟨S65536, .i1⟩
  | 95 => ⟨S65536x1, .f32⟩
  | 96 => ⟨S65536, .f32⟩
  | 97 => ⟨S65536x1x1, .f32⟩
  | 98 => ⟨S65536, .f32⟩
  | 99 => ⟨S65536, .i1⟩
  | 100 => ⟨S65536, .i1⟩
  | 101 => ⟨S65536x1, .f32⟩
  | 102 => ⟨S65536, .f32⟩
  | 103 => ⟨S65536x1x1, .f32⟩
  | 104 => ⟨S65536, .f32⟩
  | 105 => ⟨S65536, .i1⟩
  | 106 => ⟨S65536, .i1⟩
  | 107 => ⟨S_, .f32⟩
  | 108 => ⟨S65536x6, .f32⟩
  | 109 => ⟨S65536x6, .f32⟩
  | 110 => ⟨S_, .f32⟩
  | 111 => ⟨S65536x6, .f32⟩
  | 112 => ⟨S65536x6, .f32⟩
  | 113 => ⟨S65536, .f32⟩
  | 114 => ⟨S65536x1, .f32⟩
  | 115 => ⟨S65536, .f32⟩
  | 116 => ⟨S65536, .f32⟩
  | 117 => ⟨S_, .i32⟩
  | 118 => ⟨S1, .i32⟩
  | 119 => ⟨S65536x6, .f32⟩
  | 120 => ⟨S65536, .f32⟩
  | 121 => ⟨S65536x1, .f32⟩
  | 122 => ⟨S65536, .f32⟩
  | 123 => ⟨S65536, .f32⟩
  | 124 => ⟨S_, .i32⟩
  | 125 => ⟨S1, .i32⟩
  | 126 => ⟨S65536x6, .f32⟩
  | 127 => ⟨S65536, .f32⟩
  | _ => ⟨S65536x6, .f32⟩

abbrev hbmTy0_2 (i : Nat) : BufTy := match i % 128 with
  | 0 => ⟨S65536x1, .f32⟩
  | 1 => ⟨S65536, .f32⟩
  | 2 => ⟨S65536, .f32⟩
  | 3 => ⟨S_, .i32⟩
  | 4 => ⟨S1, .i32⟩
  | 5 => ⟨S65536x6, .f32⟩
  | 6 => ⟨S65536, .f32⟩
  | 7 => ⟨S65536x1, .f32⟩
  | 8 => ⟨S65536, .f32⟩
  | 9 => ⟨S65536, .f32⟩
  | 10 => ⟨S_, .i32⟩
  | 11 => ⟨S1, .i32⟩
  | 12 => ⟨S65536x6, .f32⟩
  | 13 => ⟨S65536, .f32⟩
  | 14 => ⟨S65536x1, .f32⟩
  | 15 => ⟨S65536, .f32⟩
  | 16 => ⟨S65536, .f32⟩
  | 17 => ⟨S_, .i32⟩
  | 18 => ⟨S1, .i32⟩
  | 19 => ⟨S65536x6, .f32⟩
  | 20 => ⟨S65536, .f32⟩
  | 21 => ⟨S65536x1, .f32⟩
  | 22 => ⟨S65536, .f32⟩
  | 23 => ⟨S65536, .f32⟩
  | 24 => ⟨S_, .i32⟩
  | 25 => ⟨S1, .i32⟩
  | 26 => ⟨S65536x6, .f32⟩
  | 27 => ⟨S65536x2, .f32⟩
  | 28 => ⟨S65536x2, .i32⟩
  | 29 => ⟨S65536x1, .f32⟩
  | 30 => ⟨S65536, .f32⟩
  | 31 => ⟨S65536x1, .f32⟩
  | 32 => ⟨S65536x1, .f32⟩
  | 33 => ⟨S65536, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x64, .f32⟩
  | 40 => ⟨S65536x64, .f32⟩
  | 41 => ⟨S65536x64, .f32⟩
  | 42 => ⟨S65536x64, .f32⟩
  | 43 => ⟨S65536x64, .f32⟩
  | 44 => ⟨S65536x64, .f32⟩
  | 45 => ⟨S65536x3, .f32⟩
  | 46 => ⟨S65536x64x1, .f32⟩
  | 47 => ⟨S65536x3, .f32⟩
  | 48 => ⟨S65536x1x3, .f32⟩
  | 49 => ⟨S65536x64x3, .f32⟩
  | 50 => ⟨S65536x64x3, .f32⟩
  | 51 => ⟨S65536x64x3, .f32⟩
  | 52 => ⟨S65536x1x3, .f32⟩
  | 53 => ⟨S65536x64x3, .f32⟩
  | 54 => ⟨S65536x64x3, .f32⟩
  | 55 => ⟨S65536x1, .f32⟩
  | 56 => ⟨S_, .f32⟩
  | 57 => ⟨S65536x1, .f32⟩
  | 58 => ⟨S65536x1, .i1⟩
  | 59 => ⟨S65536, .i1⟩
  | 60 => ⟨S65536x64x1, .f32⟩
  | _ => ⟨S65536x6, .f32⟩

abbrev hbmTy (i : Nat) : BufTy := match i / 128 with
  | 0 => hbmTy0_0 i
  | 1 => hbmTy0_1 i
  | 2 => hbmTy0_2 i
  | _ => ⟨S65536x6, .f32⟩

abbrev bufTy : (tb : Table) → Fin (tcTables nBuf tb) → BufTy
  | .hbm, ⟨i, _⟩ => hbmTy i
  | _, _ => ⟨S65536x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_2 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_3 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_4 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_cst_5 : Ref sig .tc := ⟨.hbm, 235, rfl⟩
abbrev main_v226 : Ref sig .tc := ⟨.hbm, 236, rfl⟩
abbrev main_v227 : Ref sig .tc := ⟨.hbm, 237, rfl⟩
abbrev main_cst_6 : Ref sig .tc := ⟨.hbm, 238, rfl⟩
abbrev main_v228 : Ref sig .tc := ⟨.hbm, 239, rfl⟩
abbrev main_v229 : Ref sig .tc := ⟨.hbm, 240, rfl⟩
abbrev main_v230 : Ref sig .tc := ⟨.hbm, 241, rfl⟩
abbrev main_v231 : Ref sig .tc := ⟨.hbm, 242, rfl⟩
abbrev main_v232 : Ref sig .tc := ⟨.hbm, 243, rfl⟩
abbrev main_v233 : Ref sig .tc := ⟨.hbm, 244, rfl⟩
abbrev main_c : Ref sig .tc := ⟨.hbm, 245, rfl⟩
abbrev main_v234 : Ref sig .tc := ⟨.hbm, 246, rfl⟩
abbrev main_v235 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_c_7 : Ref sig .tc := ⟨.hbm, 252, rfl⟩
abbrev main_v240 : Ref sig .tc := ⟨.hbm, 253, rfl⟩
abbrev main_v241 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_c_8 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_c_9 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_v256 : Ref sig .tc := ⟨.hbm, 271, rfl⟩
abbrev main_v257 : Ref sig .tc := ⟨.hbm, 272, rfl⟩
abbrev main_c_10 : Ref sig .tc := ⟨.hbm, 273, rfl⟩
abbrev main_v258 : Ref sig .tc := ⟨.hbm, 274, rfl⟩
abbrev main_v259 : Ref sig .tc := ⟨.hbm, 275, rfl⟩
abbrev main_v260 : Ref sig .tc := ⟨.hbm, 276, rfl⟩
abbrev main_v261 : Ref sig .tc := ⟨.hbm, 277, rfl⟩
abbrev main_v262 : Ref sig .tc := ⟨.hbm, 278, rfl⟩
abbrev main_v263 : Ref sig .tc := ⟨.hbm, 279, rfl⟩
abbrev main_c_11 : Ref sig .tc := ⟨.hbm, 280, rfl⟩
abbrev main_v264 : Ref sig .tc := ⟨.hbm, 281, rfl⟩
abbrev main_v265 : Ref sig .tc := ⟨.hbm, 282, rfl⟩
abbrev main_values : Ref sig .tc := ⟨.hbm, 283, rfl⟩
abbrev main_indices : Ref sig .tc := ⟨.hbm, 284, rfl⟩
abbrev main_v266 : Ref sig .tc := ⟨.hbm, 285, rfl⟩
abbrev main_v267 : Ref sig .tc := ⟨.hbm, 286, rfl⟩
abbrev main_v268 : Ref sig .tc := ⟨.hbm, 287, rfl⟩
abbrev main_v269 : Ref sig .tc := ⟨.hbm, 288, rfl⟩
abbrev main_v270 : Ref sig .tc := ⟨.hbm, 289, rfl⟩
abbrev main_v271 : Ref sig .tc := ⟨.hbm, 290, rfl⟩
abbrev main_v272 : Ref sig .tc := ⟨.hbm, 291, rfl⟩
abbrev main_cst_12 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_cst_13 : Ref sig .tc := ⟨.hbm, 312, rfl⟩
abbrev main_v292 : Ref sig .tc := ⟨.hbm, 313, rfl⟩
abbrev main_v293 : Ref sig .tc := ⟨.hbm, 314, rfl⟩
abbrev main_v294 : Ref sig .tc := ⟨.hbm, 315, rfl⟩
abbrev main_v295 : Ref sig .tc := ⟨.hbm, 316, rfl⟩

abbrev nD : Nat := 1
abbrev τ : Topo := Topo.v7x

variable {F : FTy → Type} [FloatOps F]
-- ==== Proof.Spec.lean ====
/-
  The ray against the cube, one ray at a time, over the extended reals: the six times at which a ray meets the
  planes of the cube's faces, which of them lie on the cube, the two greatest of the six, and the samples between
  them. Both programs are read against these definitions.
-/
module

public import Idealize.ShloMosaic.Lib.Pointwise

@[expose] public section

noncomputable section

namespace Cert.Ray

open Idealize.ShloMosaic

/-- The lower coordinate of the cube. -/
def lo : EReal := Ideal.ofBits .f32 0xBF800000#32
/-- The upper coordinate of the cube. -/
def hi : EReal := 1
/-- The number added to a direction before it divides. -/
def eps : EReal := Ideal.ofBits .f32 0x25800000#32
/-- The time given to a face that the ray misses. -/
def far : EReal := Ideal.ofBits .f32 0xC47A0000#32
/-- The least width of a bin that counts. -/
def least : EReal := Ideal.ofBits .f32 0x3727C5AC#32

/-- The six numbers of ray `r` in the array of rays. -/
def ray (x : (⟨2, ![65536, 6]⟩ : Shape).Idx → EReal) (r : Fin 65536) : Fin 6 → EReal := fun k => x (ix2 r k)

/-- The time at which a ray with origin `o` and direction `d` along an axis meets the plane at `f`. -/
def hit (f o d : EReal) : EReal := Ideal.div (f - o) (d + eps)

/-- At time `t` the coordinate is at least the cube's lower one. -/
def above (t d o : EReal) : BitVec 1 := Ideal.cmp .oge (t * d + o) lo
/-- At time `t` the coordinate is at most the cube's upper one. -/
def below (t d o : EReal) : BitVec 1 := Ideal.cmp .ole (t * d + o) hi

/-- At time `t` the coordinate lies between the cube's two. -/
def inside (t d o : EReal) : BitVec 1 := above t d o &&& below t d o

/-- The time of the face at `f` on the axis `o, d`, kept where the other two axes lie inside the cube. -/
def face (f o d o' d' o'' d'' : EReal) : EReal :=
  Scalar.select (inside (hit f o d) d' o' &&& inside (hit f o d) d'' o'') (hit f o d) far

/-- The six times of a ray `q` (three coordinates of its origin, three of its direction): left, right, front,
    back, bottom, up. -/
def times (q : Fin 6 → EReal) : Fin 6 → EReal :=
  ![face lo (q 0) (q 3) (q 1) (q 4) (q 2) (q 5), face hi (q 0) (q 3) (q 1) (q 4) (q 2) (q 5),
    face lo (q 1) (q 4) (q 0) (q 3) (q 2) (q 5), face hi (q 1) (q 4) (q 0) (q 3) (q 2) (q 5),
    face lo (q 2) (q 5) (q 0) (q 3) (q 1) (q 4), face hi (q 2) (q 5) (q 0) (q 3) (q 1) (q 4)]

/-- One step of the search for the two greatest: the pair holds the greatest so far and the second greatest. -/
def step (p : EReal × EReal) (t : EReal) : EReal × EReal := (max p.1 t, max p.2 (min p.1 t))

/-- The greatest of six and the second greatest, by one pass over them. -/
def topTwo (x : Fin 6 → EReal) : EReal × EReal := (List.ofFn x).foldl step (⊥, ⊥)

/-- The time the ray leaves the cube. -/
def stop (q : Fin 6 → EReal) : EReal := (topTwo (times q)).1
/-- The time the ray enters the cube. -/
def start (q : Fin 6 → EReal) : EReal := (topTwo (times q)).2

/-- The width of one of the 64 bins between the two times. -/
def width (q : Fin 6 → EReal) : EReal := (stop q - start q) * Ideal.ofBits .f32 0x3C800000#32

/-- The number of a bin. -/
def bin (k : Fin 64) : EReal := FloatOps.sitofp (F := Ideal) .f32 (BitVec.ofNat 32 k.val)

/-- The sample's time in the bin `k`, at the fraction `b` of the bin. -/
def sample (q : Fin 6 → EReal) (k : Fin 64) (b : EReal) : EReal := (bin k + b) * width q + start q

/-- The bin is wide enough. -/
def wide (q : Fin 6 → EReal) : BitVec 1 := Ideal.cmp .ogt (max (width q) (-(width q))) least

end Cert.Ray
end
-- ==== Proof.TopTwo.lean ====
/-
  The two greatest of six: the one pass does not mind the order of the six, on a descending sequence it gives the
  first two, and so it gives the first two entries of the sorted sequence.
-/
module

public import proofs.«01_k».proof.Proof.Spec
public import Idealize.ShloMosaic.Lib.SortFacts

@[expose] public section

noncomputable section

namespace Cert.Ray

open Idealize.ShloMosaic

/-- Two steps may be exchanged. -/
theorem step_comm (p : EReal × EReal) (t u : EReal) : step (step p t) u = step (step p u) t := by
  obtain ⟨e, s⟩ := p
  refine Prod.ext ?_ ?_
  · exact max_right_comm e t u
  · show max (max s (min e t)) (min (max e t) u) = max (max s (min e u)) (min (max e u) t)
    rw [max_assoc, max_assoc, min_max_distrib_right, min_max_distrib_right, min_comm u t]
    exact congrArg (max s) (max_left_comm _ _ _)

instance : RightCommutative step := ⟨step_comm⟩

/-- The pass over a rearranged sequence gives the same two numbers. -/
theorem topTwo_perm (x : Fin 6 → EReal) (σ : Equiv.Perm (Fin 6)) : topTwo (x ∘ σ) = topTwo x :=
  (Equiv.Perm.ofFn_comp_perm σ x).foldl_eq (⊥, ⊥)

/-- The pass written out. -/
theorem topTwo_eq (x : Fin 6 → EReal) :
    topTwo x = step (step (step (step (step (x 0, ⊥) (x 1)) (x 2)) (x 3)) (x 4)) (x 5) := by
  show step (step (step (step (step (step (⊥, ⊥) (x 0)) (x 1)) (x 2)) (x 3)) (x 4)) (x 5) = _
  have h : step (⊥, ⊥) (x 0) = (x 0, ⊥) := Prod.ext (max_bot_left _) (by show max ⊥ (min ⊥ (x 0)) = ⊥; simp)
  rw [h]

/-- A step by a number that is no greater than the second leaves the pair. -/
theorem step_small (a b t : EReal) (hab : b ≤ a) (ht : t ≤ b) : step (a, b) t = (a, b) :=
  Prod.ext (max_eq_left (ht.trans hab)) (by show max b (min a t) = b; rw [min_eq_right (ht.trans hab), max_eq_left ht])

/-- On a descending sequence the pass gives the first two entries. -/
theorem topTwo_desc (x : Fin 6 → EReal) (h : ∀ i j, i < j → x j ≤ x i) : topTwo x = (x 0, x 1) := by
  have h01 := h 0 1 (by decide)
  have h1 : step (x 0, ⊥) (x 1) = (x 0, x 1) :=
    Prod.ext (max_eq_left h01) (by show max ⊥ (min (x 0) (x 1)) = x 1; rw [min_eq_right h01, max_bot_left])
  rw [topTwo_eq, h1, step_small _ _ _ h01 (h 1 2 (by decide)), step_small _ _ _ h01 (h 1 3 (by decide)),
    step_small _ _ _ h01 (h 1 4 (by decide)), step_small _ _ _ h01 (h 1 5 (by decide))]

/-- The comparison by which the six are sorted, greater first. -/
def before (x : Fin 6 → EReal) (k k' : Fin 6) : Bool := Ideal.cmp .ogt (x k) (x k') == 1#1

theorem before_iff (x : Fin 6 → EReal) (k k' : Fin 6) : before x k k' = true ↔ x k' < x k := by
  unfold before Ideal.cmp
  by_cases h : x k' < x k <;> simp [h]

/-- The first two entries of the sorted sequence are the two of the pass. -/
theorem sorted_topTwo (x : Fin 6 → EReal) :
    (x (sortedFrom (before x) 0), x (sortedFrom (before x) 1)) = topTwo x := by
  have hb : Function.Bijective (sortedFrom (before x)) := ⟨sortedFrom_injective _, sortedFrom_surjective _⟩
  have hf : ∀ k k', before x k k' = false ↔ x k ≤ x k' := fun k k' => by
    rw [← Bool.not_eq_true, before_iff, not_lt]
  have hd : ∀ i j, i < j → x (sortedFrom (before x) j) ≤ x (sortedFrom (before x) i) := fun i j hij =>
    (hf _ _).1 (sortedFrom_noInversion (before x) (before x)
      (fun a b h => (hf b a).2 ((before_iff x a b).1 h).le) (fun _ _ h => h)
      (fun a b c h h' => (hf a c).2 (((hf a b).1 h).trans ((hf b c).1 h'))) i j hij)
  rw [← topTwo_perm x (Equiv.ofBijective _ hb)]
  exact (topTwo_desc (x ∘ sortedFrom (before x)) hd).symm

end Cert.Ray
end
-- ==== Proof.RefTimes.lean ====
/-
  The reference read at one ray: its six times, the points where the ray meets the six planes, and which of them lie
  on the cube, for a ray whose box is the cube.
-/
module

public import proofs.«01_k».proof.Proof.TopTwo
public import Idealize.ShloMosaic.Lib.Pipeline.ValueKit
public import proofs.«01_k».proof.Proof.Gen.ReferenceIdeal.Read

@[expose] public section

set_option maxRecDepth 16384

noncomputable section

namespace Cert.Ray.Ref

open Idealize.ShloMosaic Cert.ReferenceIdeal Cert.ReferenceIdeal.Read

/-- The corners of the cube. -/
def corner : Fin 8 → Fin 3 → EReal :=
  ![![lo, lo, lo], ![hi, lo, lo], ![hi, hi, lo], ![lo, hi, lo], ![lo, lo, hi], ![hi, lo, hi], ![hi, hi, hi], ![lo, hi, hi]]

/-- Four conditions joined one after the other are the same as joined in pairs. -/
theorem and_pairs (a b c d : BitVec 1) : IntOp.andi (IntOp.andi (IntOp.andi a b) c) d = (a &&& b) &&& (c &&& d) := by
  show ((a &&& b) &&& c) &&& d = _
  rw [BitVec.and_assoc (a &&& b) c d]

variable (x0 : (⟨S65536x6, .f32⟩ : BufTy).Contents (Elt Ideal)) (x1 : (⟨S65536x8x3, .f32⟩ : BufTy).Contents (Elt Ideal))
  (r : Fin 65536)

/-- The time of the left plane. -/
theorem time_left (h : ∀ k j, x1 (ix3 r k j) = corner k j) :
    val_main_v21 (F := Ideal) x0 x1 (ix1 r) = hit lo (x0 (ix2 r 0)) (x0 (ix2 r 3)) := by
  pointwise [val_main_v2, val_main_v3, val_main_v14, val_main_v15, val_main_v16, val_main_v17, val_main_v18, val_main_v19, val_main_v20, val_main_v21, val_main_cst]
  rw [h]
  rfl

/-- The point where the ray meets the left plane, its coordinate `j`. -/
theorem point_left (j : Fin 3) (k l : Fin 6) (hk : k.val = 3 + j.val) (hl : l.val = j.val) :
    val_main_v72 (F := Ideal) x0 x1 (ix2 r j)
      = val_main_v21 (F := Ideal) x0 x1 (ix1 r) * x0 (ix2 r k) + x0 (ix2 r l) := by
  obtain ⟨k, k_lt⟩ := k
  obtain ⟨l, l_lt⟩ := l
  dsimp only at hk hl
  subst hk hl
  pointwise [val_main_v22, val_main_v68, val_main_v69, val_main_v70, val_main_v71, val_main_v72]

/-- Whether that point lies on the cube. -/
theorem mask_left (h : ∀ k j, x1 (ix3 r k j) = corner k j) :
    val_main_v110 (F := Ideal) x0 x1 (ix1 r)
      = inside (hit lo (x0 (ix2 r 0)) (x0 (ix2 r 3))) (x0 (ix2 r 4)) (x0 (ix2 r 1))
        &&& inside (hit lo (x0 (ix2 r 0)) (x0 (ix2 r 3))) (x0 (ix2 r 5)) (x0 (ix2 r 2)) := by
  pointwise [val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110]
  rw [point_left x0 x1 r 1 4 1 rfl rfl, point_left x0 x1 r 2 5 2 rfl rfl,
    time_left x0 x1 r h]
  simp only [h]
  exact and_pairs _ _ _ _

/-- The time of the right plane. -/
theorem time_right (h : ∀ k j, x1 (ix3 r k j) = corner k j) :
    val_main_v30 (F := Ideal) x0 x1 (ix1 r) = hit hi (x0 (ix2 r 0)) (x0 (ix2 r 3)) := by
  pointwise [val_main_v4, val_main_v5, val_main_v23, val_main_v24, val_main_v25, val_main_v26, val_main_v27, val_main_v28, val_main_v29, val_main_v30, val_main_cst_0]
  rw [h]
  rfl

/-- The point where the ray meets the right plane, its coordinate `j`. -/
theorem point_right (j : Fin 3) (k l : Fin 6) (hk : k.val = 3 + j.val) (hl : l.val = j.val) :
    val_main_v75 (F := Ideal) x0 x1 (ix2 r j)
      = val_main_v30 (F := Ideal) x0 x1 (ix1 r) * x0 (ix2 r k) + x0 (ix2 r l) := by
  obtain ⟨k, k_lt⟩ := k
  obtain ⟨l, l_lt⟩ := l
  dsimp only at hk hl
  subst hk hl
  pointwise [val_main_v31, val_main_v68, val_main_v69, val_main_v73, val_main_v74, val_main_v75]

/-- Whether that point lies on the cube. -/
theorem mask_right (h : ∀ k j, x1 (ix3 r k j) = corner k j) :
    val_main_v133 (F := Ideal) x0 x1 (ix1 r)
      = inside (hit hi (x0 (ix2 r 0)) (x0 (ix2 r 3))) (x0 (ix2 r 4)) (x0 (ix2 r 1))
        &&& inside (hit hi (x0 (ix2 r 0)) (x0 (ix2 r 3))) (x0 (ix2 r 5)) (x0 (ix2 r 2)) := by
  pointwise [val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133]
  rw [point_right x0 x1 r 1 4 1 rfl rfl, point_right x0 x1 r 2 5 2 rfl rfl,
    time_right x0 x1 r h]
  simp only [h]
  exact and_pairs _ _ _ _

/-- The time of the front plane. -/
theorem time_front (h : ∀ k j, x1 (ix3 r k j) = corner k j) :
    val_main_v39 (F := Ideal) x0 x1 (ix1 r) = hit lo (x0 (ix2 r 1)) (x0 (ix2 r 4)) := by
  pointwise [val_main_v6, val_main_v7, val_main_v32, val_main_v33, val_main_v34, val_main_v35, val_main_v36, val_main_v37, val_main_v38, val_main_v39, val_main_cst_1]
  rw [h]
  rfl

/-- The point where the ray meets the front plane, its coordinate `j`. -/
theorem point_front (j : Fin 3) (k l : Fin 6) (hk : k.val = 3 + j.val) (hl : l.val = j.val) :
    val_main_v78 (F := Ideal) x0 x1 (ix2 r j)
      = val_main_v39 (F := Ideal) x0 x1 (ix1 r) * x0 (ix2 r k) + x0 (ix2 r l) := by
  obtain ⟨k, k_lt⟩ := k
  obtain ⟨l, l_lt⟩ := l
  dsimp only at hk hl
  subst hk hl
  pointwise [val_main_v40, val_main_v68, val_main_v69, val_main_v76, val_main_v77, val_main_v78]

/-- Whether that point lies on the cube. -/
theorem mask_front (h : ∀ k j, x1 (ix3 r k j) = corner k j) :
    val_main_v156 (F := Ideal) x0 x1 (ix1 r)
      = inside (hit lo (x0 (ix2 r 1)) (x0 (ix2 r 4))) (x0 (ix2 r 3)) (x0 (ix2 r 0))
        &&& inside (hit lo (x0 (ix2 r 1)) (x0 (ix2 r 4))) (x0 (ix2 r 5)) (x0 (ix2 r 2)) := by
  pointwise [val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156]
  rw [point_front x0 x1 r 0 3 0 rfl rfl, point_front x0 x1 r 2 5 2 rfl rfl,
    time_front x0 x1 r h]
  simp only [h]
  exact and_pairs _ _ _ _

/-- The time of the back plane. -/
theorem time_back (h : ∀ k j, x1 (ix3 r k j) = corner k j) :
    val_main_v48 (F := Ideal) x0 x1 (ix1 r) = hit hi (x0 (ix2 r 1)) (x0 (ix2 r 4)) := by
  pointwise [val_main_v8, val_main_v9, val_main_v41, val_main_v42, val_main_v43, val_main_v44, val_main_v45, val_main_v46, val_main_v47, val_main_v48, val_main_cst_2]
  rw [h]
  rfl

/-- The point where the ray meets the back plane, its coordinate `j`. -/
theorem point_back (j : Fin 3) (k l : Fin 6) (hk : k.val = 3 + j.val) (hl : l.val = j.val) :
    val_main_v81 (F := Ideal) x0 x1 (ix2 r j)
      = val_main_v48 (F := Ideal) x0 x1 (ix1 r) * x0 (ix2 r k) + x0 (ix2 r l) := by
  obtain ⟨k, k_lt⟩ := k
  obtain ⟨l, l_lt⟩ := l
  dsimp only at hk hl
  subst hk hl
  pointwise [val_main_v49, val_main_v68, val_main_v69, val_main_v79, val_main_v80, val_main_v81]

/-- Whether that point lies on the cube. -/
theorem mask_back (h : ∀ k j, x1 (ix3 r k j) = corner k j) :
    val_main_v179 (F := Ideal) x0 x1 (ix1 r)
      = inside (hit hi (x0 (ix2 r 1)) (x0 (ix2 r 4))) (x0 (ix2 r 3)) (x0 (ix2 r 0))
        &&& inside (hit hi (x0 (ix2 r 1)) (x0 (ix2 r 4))) (x0 (ix2 r 5)) (x0 (ix2 r 2)) := by
  pointwise [val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179]
  rw [point_back x0 x1 r 0 3 0 rfl rfl, point_back x0 x1 r 2 5 2 rfl rfl,
    time_back x0 x1 r h]
  simp only [h]
  exact and_pairs _ _ _ _

/-- The time of the bottom plane. -/
theorem time_bottom (h : ∀ k j, x1 (ix3 r k j) = corner k j) :
    val_main_v57 (F := Ideal) x0 x1 (ix1 r) = hit lo (x0 (ix2 r 2)) (x0 (ix2 r 5)) := by
  pointwise [val_main_v10, val_main_v11, val_main_v50, val_main_v51, val_main_v52, val_main_v53, val_main_v54, val_main_v55, val_main_v56, val_main_v57, val_main_cst_3]
  rw [h]
  rfl

/-- The point where the ray meets the bottom plane, its coordinate `j`. -/
theorem point_bottom (j : Fin 3) (k l : Fin 6) (hk : k.val = 3 + j.val) (hl : l.val = j.val) :
    val_main_v84 (F := Ideal) x0 x1 (ix2 r j)
      = val_main_v57 (F := Ideal) x0 x1 (ix1 r) * x0 (ix2 r k) + x0 (ix2 r l) := by
  obtain ⟨k, k_lt⟩ := k
  obtain ⟨l, l_lt⟩ := l
  dsimp only at hk hl
  subst hk hl
  pointwise [val_main_v58, val_main_v68, val_main_v69, val_main_v82, val_main_v83, val_main_v84]

/-- Whether that point lies on the cube. -/
theorem mask_bottom (h : ∀ k j, x1 (ix3 r k j) = corner k j) :
    val_main_v202 (F := Ideal) x0 x1 (ix1 r)
      = inside (hit lo (x0 (ix2 r 2)) (x0 (ix2 r 5))) (x0 (ix2 r 3)) (x0 (ix2 r 0))
        &&& inside (hit lo (x0 (ix2 r 2)) (x0 (ix2 r 5))) (x0 (ix2 r 4)) (x0 (ix2 r 1)) := by
  pointwise [val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202]
  rw [point_bottom x0 x1 r 0 3 0 rfl rfl, point_bottom x0 x1 r 1 4 1 rfl rfl,
    time_bottom x0 x1 r h]
  simp only [h]
  exact and_pairs _ _ _ _

/-- The time of the up plane. -/
theorem time_up (h : ∀ k j, x1 (ix3 r k j) = corner k j) :
    val_main_v66 (F := Ideal) x0 x1 (ix1 r) = hit hi (x0 (ix2 r 2)) (x0 (ix2 r 5)) := by
  pointwise [val_main_v12, val_main_v13, val_main_v59, val_main_v60, val_main_v61, val_main_v62, val_main_v63, val_main_v64, val_main_v65, val_main_v66, val_main_cst_4]
  rw [h]
  rfl

/-- The point where the ray meets the up plane, its coordinate `j`. -/
theorem point_up (j : Fin 3) (k l : Fin 6) (hk : k.val = 3 + j.val) (hl : l.val = j.val) :
    val_main_v87 (F := Ideal) x0 x1 (ix2 r j)
      = val_main_v66 (F := Ideal) x0 x1 (ix1 r) * x0 (ix2 r k) + x0 (ix2 r l) := by
  obtain ⟨k, k_lt⟩ := k
  obtain ⟨l, l_lt⟩ := l
  dsimp only at hk hl
  subst hk hl
  pointwise [val_main_v67, val_main_v68, val_main_v69, val_main_v85, val_main_v86, val_main_v87]

/-- Whether that point lies on the cube. -/
theorem mask_up (h : ∀ k j, x1 (ix3 r k j) = corner k j) :
    val_main_v225 (F := Ideal) x0 x1 (ix1 r)
      = inside (hit hi (x0 (ix2 r 2)) (x0 (ix2 r 5))) (x0 (ix2 r 3)) (x0 (ix2 r 0))
        &&& inside (hit hi (x0 (ix2 r 2)) (x0 (ix2 r 5))) (x0 (ix2 r 4)) (x0 (ix2 r 1)) := by
  pointwise [val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225]
  rw [point_up x0 x1 r 0 3 0 rfl rfl, point_up x0 x1 r 1 4 1 rfl rfl,
    time_up x0 x1 r h]
  simp only [h]
  exact and_pairs _ _ _ _

end Cert.Ray.Ref
end
-- ==== Proof.Cube.lean ====
/-
  The precondition: every ray's box is the cube the kernel cuts with.
-/
module

public import proofs.«01_k».proof.Defs
public import proofs.«01_k».proof.Proof.Gen.Pre_unit_cube
public import proofs.«01_k».proof.Proof.RefTimes

@[expose] public section

set_option maxRecDepth 16384

noncomputable section

namespace Cert.Ray.Ref

open Idealize.ShloMosaic Cert.Pre_unit_cube Cert.Pre_unit_cube.Gen

/-- A comparison for equality that comes out set gives an equation. -/
theorem eq_of_oeq {a b : EReal} (h : Ideal.cmp .oeq a b = 1#1) : a = b := by
  by_contra hne
  have : Ideal.cmp .oeq a b = 0#1 := by
    show BitVec.ofBool (decide (a = b)) = 0#1
    simp [hne]
  rw [this] at h
  exact absurd h (by decide)

/-- The word of the cube's upper side. -/
theorem bits_of_hi : Ideal.ofBits .f32 0x3F800000#32 = hi := by
  show Ideal.ofBits .f32 0x3F800000#32 = (1 : EReal)
  pointwise

/-- An index of a list of eight is its place. -/
theorem row_of_eight (k : Fin 8) : (S8.rowMajor (ix1 k) : Fin 8) = k := by
  fin_cases k <;> rfl

/-- Where the precondition is all ones, the box of each ray has the cube's corners. -/
theorem corners_of_unit_cube (a0 : FVec Ideal S65536x6 .f32) (a1 : FVec Ideal S65536x8x3 .f32) (a2 : FVec Ideal S65536x64 .f32)
    (h : Cert.Pre_unit_cube.fn (F := Ideal) a0 a1 a2 = fun _ => 1#1) (r : Fin 65536) (k : Fin 8) (j : Fin 3) :
    a1 (ix3 r k j) = corner k j := by
  have e := congrFun h (ix3 r k j)
  fin_cases j
  · revert e
    pointwise [Cert.Pre_unit_cube.fn]
    intro e
    refine (eq_of_oeq e).trans ?_
    rw [row_of_eight]
    fin_cases k <;> first | exact rfl | exact bits_of_hi
  · revert e
    pointwise [Cert.Pre_unit_cube.fn]
    intro e
    refine (eq_of_oeq e).trans ?_
    rw [row_of_eight]
    fin_cases k <;> first | exact rfl | exact bits_of_hi
  · revert e
    pointwise [Cert.Pre_unit_cube.fn]
    intro e
    refine (eq_of_oeq e).trans ?_
    rw [row_of_eight]
    fin_cases k <;> first | exact rfl | exact bits_of_hi

end Cert.Ray.Ref
end
-- ==== Proof.RefList.lean ====
/-
  The reference's list of six times and the two greatest of them, read at one ray.
-/
module

public import proofs.«01_k».proof.Proof.RefTimes
public import Idealize.ShloMosaic.Lib.Routing.OpsOne
public import Idealize.ShloMosaic.Lib.Routing.OpsSet

@[expose] public section

set_option maxRecDepth 16384

noncomputable section

namespace Cert.Ray.Ref

open Idealize.ShloMosaic Cert.ReferenceIdeal Cert.ReferenceIdeal.Read

/-- A column written over an array of six columns: the column `k` is the new one, the others are kept. -/
theorem scatter_col (x : S65536x6.Idx → EReal) (idx : IVec S1 32) (u : S65536.Idx → EReal) (k : Fin 6)
    (hk : (idx (ix1 0)).toInt = (k.val : Int)) (r : Fin 65536) (e : Fin 6) :
    Host.scatter scatter_S65536x6_S1_S65536_0_1_1_0 (fun _ b => b) x idx u (ix2 r e)
      = if e = k then u (ix1 r) else x (ix2 r e) := by
  have land : ∀ w : Fin 65536, scatter_S65536x6_S1_S65536_0_1_1_0.resultIdx? (ix1 w) idx = some (ix2 r e) ↔ w = r ∧ e = k :=
    fun w => Routing.lands_col scatter_S65536x6_S1_S65536_0_1_1_0 rfl rfl idx k hk w r e
  have eta : ∀ j : S65536.Idx, j = ix1 (j 0) := fun j => funext fun a => by
    match a with
    | ⟨0, _⟩ => rfl
  by_cases h : e = k
  · rw [if_pos h]
    refine Routing.scatter_set_hit _ x idx u (ix2 r e) _ (fun j hj => ?_) (ix1 r) ((land r).2 ⟨rfl, h⟩)
    rw [eta j] at hj ⊢
    exact congrArg (fun w => u (ix1 w)) ((land (j 0)).1 hj).1
  · rw [if_neg h]
    refine Routing.scatter_set_miss _ x idx u (ix2 r e) fun j hj => h ?_
    rw [eta j] at hj
    exact ((land (j 0)).1 hj).2

/-- Minus one times a thousand is the time given to a face that the ray misses. -/
theorem far_eq : (-1 : EReal) * Ideal.ofBits .f32 0x447A0000#32 = far := by
  unfold far
  simp [Ideal.ofBits, Ideal.ieee, -EReal.coe_mul]

variable (x0 : (⟨S65536x6, .f32⟩ : BufTy).Contents (Elt Ideal)) (x1 : (⟨S65536x8x3, .f32⟩ : BufTy).Contents (Elt Ideal))
  (r : Fin 65536)

/-- The list before any face is entered. -/
theorem list_far (e : Fin 6) : val_main_v229 (F := Ideal) (ix2 r e) = far := by
  pointwise [val_main_cst_5, val_main_v226, val_main_v227, val_main_cst_6, val_main_v228, val_main_v229]
  exact far_eq

/-- The entry for the left face. -/
theorem entry_left (h : ∀ k j, x1 (ix3 r k j) = corner k j) :
    val_main_v233 (F := Ideal) x0 x1 (ix1 r) = times (ray x0 r) 0 := by
  pointwise [val_main_v230, val_main_v231, val_main_v232, val_main_v233, val_main_v22]
  rw [mask_left x0 x1 r h, time_left x0 x1 r h, list_far r]
  rfl

/-- The list once the left face is entered: the faces so far have their entries. -/
theorem list_left (h : ∀ k j, x1 (ix3 r k j) = corner k j) (e : Fin 6) (he : e.val ≤ 0) :
    val_main_v235 (F := Ideal) x0 x1 (ix2 r e) = times (ray x0 r) e := by
  unfold val_main_v235
  rw [scatter_col _ _ _ 0 (by pointwise [val_main_c, val_main_v234]; decide)]
  by_cases hk : e = 0
  · rw [if_pos hk, entry_left x0 x1 r h, hk]
  · rw [if_neg hk]
    exact absurd (Fin.ext (Nat.le_zero.1 he)) hk

/-- The list once the left face is entered: the later faces have none. -/
theorem list_left_rest (h : ∀ k j, x1 (ix3 r k j) = corner k j) (e : Fin 6) (he : 0 < e.val) :
    val_main_v235 (F := Ideal) x0 x1 (ix2 r e) = far := by
  unfold val_main_v235
  rw [scatter_col _ _ _ 0 (by pointwise [val_main_c, val_main_v234]; decide), if_neg (fun q => by rw [q] at he; exact absurd he (by decide))]
  exact list_far r e

/-- The entry for the right face. -/
theorem entry_right (h : ∀ k j, x1 (ix3 r k j) = corner k j) :
    val_main_v239 (F := Ideal) x0 x1 (ix1 r) = times (ray x0 r) 1 := by
  pointwise [val_main_v236, val_main_v237, val_main_v238, val_main_v239, val_main_v31]
  rw [mask_right x0 x1 r h, time_right x0 x1 r h, list_left_rest x0 x1 r h]
  · rfl
  · decide

/-- The list once the right face is entered: the faces so far have their entries. -/
theorem list_right (h : ∀ k j, x1 (ix3 r k j) = corner k j) (e : Fin 6) (he : e.val ≤ 1) :
    val_main_v241 (F := Ideal) x0 x1 (ix2 r e) = times (ray x0 r) e := by
  unfold val_main_v241
  rw [scatter_col _ _ _ 1 (by pointwise [val_main_c_7, val_main_v240]; decide)]
  by_cases hk : e = 1
  · rw [if_pos hk, entry_right x0 x1 r h, hk]
  · rw [if_neg hk]
    exact list_left x0 x1 r h e (by have := fun q => hk (Fin.ext q); simp at this; omega)

/-- The list once the right face is entered: the later faces have none. -/
theorem list_right_rest (h : ∀ k j, x1 (ix3 r k j) = corner k j) (e : Fin 6) (he : 1 < e.val) :
    val_main_v241 (F := Ideal) x0 x1 (ix2 r e) = far := by
  unfold val_main_v241
  rw [scatter_col _ _ _ 1 (by pointwise [val_main_c_7, val_main_v240]; decide), if_neg (fun q => by rw [q] at he; exact absurd he (by decide))]
  exact list_left_rest x0 x1 r h e (by omega)

/-- The entry for the front face. -/
theorem entry_front (h : ∀ k j, x1 (ix3 r k j) = corner k j) :
    val_main_v245 (F := Ideal) x0 x1 (ix1 r) = times (ray x0 r) 2 := by
  pointwise [val_main_v242, val_main_v243, val_main_v244, val_main_v245, val_main_v40]
  rw [mask_front x0 x1 r h, time_front x0 x1 r h, list_right_rest x0 x1 r h]
  · rfl
  · decide

/-- The list once the front face is entered: the faces so far have their entries. -/
theorem list_front (h : ∀ k j, x1 (ix3 r k j) = corner k j) (e : Fin 6) (he : e.val ≤ 2) :
    val_main_v247 (F := Ideal) x0 x1 (ix2 r e) = times (ray x0 r) e := by
  unfold val_main_v247
  rw [scatter_col _ _ _ 2 (by pointwise [val_main_c_8, val_main_v246]; decide)]
  by_cases hk : e = 2
  · rw [if_pos hk, entry_front x0 x1 r h, hk]
  · rw [if_neg hk]
    exact list_right x0 x1 r h e (by have := fun q => hk (Fin.ext q); simp at this; omega)

/-- The list once the front face is entered: the later faces have none. -/
theorem list_front_rest (h : ∀ k j, x1 (ix3 r k j) = corner k j) (e : Fin 6) (he : 2 < e.val) :
    val_main_v247 (F := Ideal) x0 x1 (ix2 r e) = far := by
  unfold val_main_v247
  rw [scatter_col _ _ _ 2 (by pointwise [val_main_c_8, val_main_v246]; decide), if_neg (fun q => by rw [q] at he; exact absurd he (by decide))]
  exact list_right_rest x0 x1 r h e (by omega)

/-- The entry for the back face. -/
theorem entry_back (h : ∀ k j, x1 (ix3 r k j) = corner k j) :
    val_main_v251 (F := Ideal) x0 x1 (ix1 r) = times (ray x0 r) 3 := by
  pointwise [val_main_v248, val_main_v249, val_main_v250, val_main_v251, val_main_v49]
  rw [mask_back x0 x1 r h, time_back x0 x1 r h, list_front_rest x0 x1 r h]
  · rfl
  · decide

/-- The list once the back face is entered: the faces so far have their entries. -/
theorem list_back (h : ∀ k j, x1 (ix3 r k j) = corner k j) (e : Fin 6) (he : e.val ≤ 3) :
    val_main_v253 (F := Ideal) x0 x1 (ix2 r e) = times (ray x0 r) e := by
  unfold val_main_v253
  rw [scatter_col _ _ _ 3 (by pointwise [val_main_c_9, val_main_v252]; decide)]
  by_cases hk : e = 3
  · rw [if_pos hk, entry_back x0 x1 r h, hk]
  · rw [if_neg hk]
    exact list_front x0 x1 r h e (by have := fun q => hk (Fin.ext q); simp at this; omega)

/-- The list once the back face is entered: the later faces have none. -/
theorem list_back_rest (h : ∀ k j, x1 (ix3 r k j) = corner k j) (e : Fin 6) (he : 3 < e.val) :
    val_main_v253 (F := Ideal) x0 x1 (ix2 r e) = far := by
  unfold val_main_v253
  rw [scatter_col _ _ _ 3 (by pointwise [val_main_c_9, val_main_v252]; decide), if_neg (fun q => by rw [q] at he; exact absurd he (by decide))]
  exact list_front_rest x0 x1 r h e (by omega)

/-- The entry for the bottom face. -/
theorem entry_bottom (h : ∀ k j, x1 (ix3 r k j) = corner k j) :
    val_main_v257 (F := Ideal) x0 x1 (ix1 r) = times (ray x0 r) 4 := by
  pointwise [val_main_v254, val_main_v255, val_main_v256, val_main_v257, val_main_v58]
  rw [mask_bottom x0 x1 r h, time_bottom x0 x1 r h, list_back_rest x0 x1 r h]
  · rfl
  · decide

/-- The list once the bottom face is entered: the faces so far have their entries. -/
theorem list_bottom (h : ∀ k j, x1 (ix3 r k j) = corner k j) (e : Fin 6) (he : e.val ≤ 4) :
    val_main_v259 (F := Ideal) x0 x1 (ix2 r e) = times (ray x0 r) e := by
  unfold val_main_v259
  rw [scatter_col _ _ _ 4 (by pointwise [val_main_c_10, val_main_v258]; decide)]
  by_cases hk : e = 4
  · rw [if_pos hk, entry_bottom x0 x1 r h, hk]
  · rw [if_neg hk]
    exact list_back x0 x1 r h e (by have := fun q => hk (Fin.ext q); simp at this; omega)

/-- The list once the bottom face is entered: the later faces have none. -/
theorem list_bottom_rest (h : ∀ k j, x1 (ix3 r k j) = corner k j) (e : Fin 6) (he : 4 < e.val) :
    val_main_v259 (F := Ideal) x0 x1 (ix2 r e) = far := by
  unfold val_main_v259
  rw [scatter_col _ _ _ 4 (by pointwise [val_main_c_10, val_main_v258]; decide), if_neg (fun q => by rw [q] at he; exact absurd he (by decide))]
  exact list_back_rest x0 x1 r h e (by omega)

/-- The entry for the up face. -/
theorem entry_up (h : ∀ k j, x1 (ix3 r k j) = corner k j) :
    val_main_v263 (F := Ideal) x0 x1 (ix1 r) = times (ray x0 r) 5 := by
  pointwise [val_main_v260, val_main_v261, val_main_v262, val_main_v263, val_main_v67]
  rw [mask_up x0 x1 r h, time_up x0 x1 r h, list_bottom_rest x0 x1 r h]
  · rfl
  · decide

/-- The list once the up face is entered: the faces so far have their entries. -/
theorem list_up (h : ∀ k j, x1 (ix3 r k j) = corner k j) (e : Fin 6) (he : e.val ≤ 5) :
    val_main_v265 (F := Ideal) x0 x1 (ix2 r e) = times (ray x0 r) e := by
  unfold val_main_v265
  rw [scatter_col _ _ _ 5 (by pointwise [val_main_c_11, val_main_v264]; decide)]
  by_cases hk : e = 5
  · rw [if_pos hk, entry_up x0 x1 r h, hk]
  · rw [if_neg hk]
    exact list_bottom x0 x1 r h e (by have := fun q => hk (Fin.ext q); simp at this; omega)

/-- The list once the up face is entered: the later faces have none. -/
theorem list_up_rest (h : ∀ k j, x1 (ix3 r k j) = corner k j) (e : Fin 6) (he : 5 < e.val) :
    val_main_v265 (F := Ideal) x0 x1 (ix2 r e) = far := by
  unfold val_main_v265
  rw [scatter_col _ _ _ 5 (by pointwise [val_main_c_11, val_main_v264]; decide), if_neg (fun q => by rw [q] at he; exact absurd he (by decide))]
  exact list_bottom_rest x0 x1 r h e (by omega)

/-- Position `k` of the row through `(r, c)`. -/
theorem along_row (r : Fin 65536) (c k : Fin 6) :
    Shape.Idx.along (s := S65536x6) (ix2 r c) (1 : Fin 2) k = (ix2 r k : S65536x6.Idx) := by
  funext a
  match a with
  | ⟨0, _⟩ => rfl
  | ⟨1, _⟩ => rfl

/-- Entry `c` of the two greatest along the last axis, read at one row: entry `c` of the sorted row. -/
theorem topK_entry (x : S65536x6.Idx → EReal) (hs : S65536x6.Slices (fun _ => 0) S65536x2) (r : Fin 65536) (c : Fin 2) (e : Fin 6) (he : e.val = c.val) :
    (Host.topK S65536x2 1 (FloatOps.cmpfTotal (F := Ideal) (φ := .f32) .gt) x hs).1 (ix2 r c)
      = x (ix2 r (sortedFrom (before fun k => x (ix2 r k)) e)) := by
  have hx : (Host.topK S65536x2 1 (FloatOps.cmpfTotal (F := Ideal) (φ := .f32) .gt) x hs).1 (ix2 r c)
      = Host.sortBy S65536x6 1 (fun l r : EReal × BitVec 32 => FloatOps.cmpfTotal (F := Ideal) (φ := .f32) .gt l.1 r.1)
          (fun j => (x j, if hd : 1 < S65536x6.rank then iotaInDim S65536x6 32 ⟨1, hd⟩ j else 0#32)) x (ix2 r e) := by
    dsimp only [Host.topK]
    rw [Host.sort2_eq_sortBy]
    refine extractStridedSlice_apply (fun _ => 0) _ _ (ix2 r c) (ix2 r e) fun a => ?_
    match a with
    | ⟨0, _⟩ => exact (Nat.zero_add _).symm
    | ⟨1, _⟩ => exact he.trans (Nat.zero_add _).symm
  rw [hx]
  show x (Shape.Idx.along (s := S65536x6) (ix2 r e) (1 : Fin 2) (sortedFrom (fun k k' => Ideal.cmp .ogt
    (x (Shape.Idx.along (s := S65536x6) (ix2 r e) (1 : Fin 2) k)) (x (Shape.Idx.along (s := S65536x6) (ix2 r e) (1 : Fin 2) k')) == 1#1) e)) = _
  have hf : (fun k => x (Shape.Idx.along (s := S65536x6) (ix2 r e) (1 : Fin 2) k)) = fun k => x (ix2 r k) :=
    funext fun k => congrArg x (along_row r e k)
  exact (congrArg x (along_row r e _)).trans (congrArg (fun f => x (ix2 r (sortedFrom (before f) e))) hf)

variable (h : ∀ r k j, x1 (ix3 r k j) = corner k j)
include h

/-- The two greatest of the six times. -/
theorem values_eq : (val_main_values (F := Ideal) x0 x1 (ix2 r 0), val_main_values (F := Ideal) x0 x1 (ix2 r 1))
    = topTwo (times (ray x0 r)) := by
  have hl : (fun k => val_main_v265 (F := Ideal) x0 x1 (ix2 r k)) = times (ray x0 r) :=
    funext fun k => list_up x0 x1 r (h r) k (by omega)
  unfold val_main_values
  rw [topK_entry _ _ r 0 0 rfl, topK_entry _ _ r 1 1 rfl, ← hl]
  exact sorted_topTwo fun k => val_main_v265 (F := Ideal) x0 x1 (ix2 r k)

/-- The time the ray leaves the cube. -/
theorem values_stop : (val_main_values (F := Ideal) x0 x1 (ix2 r 0) : EReal) = stop (ray x0 r) := by
  have e := values_eq x0 x1 r h
  unfold stop
  rw [← e]

/-- The time the ray enters the cube. -/
theorem values_start : (val_main_values (F := Ideal) x0 x1 (ix2 r 1) : EReal) = start (ray x0 r) := by
  have e := values_eq x0 x1 r h
  unfold start
  rw [← e]

end Cert.Ray.Ref
end
-- ==== Proof.RefResults.lean ====
/-
  The reference's three results, read at one ray.
-/
module

public import proofs.«01_k».proof.Proof.RefList

@[expose] public section

set_option maxRecDepth 16384

noncomputable section

namespace Cert.Ray.Ref

open Idealize.ShloMosaic Cert.ReferenceIdeal Cert.ReferenceIdeal.Read

/-- A division by 64 is a multiplication by its inverse. -/
theorem div_bins (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee, -EReal.coe_mul]; norm_num
  have h' : Ideal.ofBits .f32 0x3C800000#32 = ((1 / 64 : ℝ) : EReal) := by
    simp [Ideal.ofBits, Ideal.ieee, -EReal.coe_mul]; norm_num
  rw [h, h', Ideal.div_coe (by norm_num)]

variable (x0 : (⟨S65536x6, .f32⟩ : BufTy).Contents (Elt Ideal)) (x1 : (⟨S65536x8x3, .f32⟩ : BufTy).Contents (Elt Ideal))
  (x2 : (⟨S65536x64, .f32⟩ : BufTy).Contents (Elt Ideal))
  (h : ∀ r k j, x1 (ix3 r k j) = corner k j) (r : Fin 65536)
include h

/-- The width of the bins. -/
theorem width_eq (u : Fin 1) : (val_main_v274 (F := Ideal) x0 x1 (ix2 r u) : EReal) = width (ray x0 r) := by
  pointwise [val_main_v266, val_main_v267, val_main_v268, val_main_v269, val_main_v270, val_main_v271, val_main_v272,
    val_main_cst_12, val_main_v273, val_main_v274]
  rw [values_stop x0 x1 r h, values_start x0 x1 r h, div_bins]
  rfl

/-- The sample times. -/
theorem sample_eq (k : Fin 64) : (val_main_v280 (F := Ideal) x0 x1 x2 (ix2 r k) : EReal)
    = sample (ray x0 r) k (x2 (ix2 r k)) := by
  pointwise [val_main_v0, val_main_v1, val_main_v266, val_main_v267, val_main_v268, val_main_v275, val_main_v276, val_main_v277, val_main_v278,
    val_main_v279, val_main_v280]
  rw [values_start x0 x1 r h, width_eq x0 x1 h r]
  rfl

/-- The sample points. -/
theorem points_eq (k : Fin 64) (j : Fin 3) (a b : Fin 6) (ha : a.val = 3 + j.val) (hb : b.val = j.val) :
    (val_main_v290 (F := Ideal) x0 x1 x2 (ix3 r k j) : EReal)
    = sample (ray x0 r) k (x2 (ix2 r k)) * ray x0 r a + ray x0 r b := by
  obtain ⟨a, a_lt⟩ := a
  obtain ⟨b, b_lt⟩ := b
  dsimp only at ha hb
  subst ha hb
  pointwise [val_main_v281, val_main_v282, val_main_v283, val_main_v284, val_main_v285, val_main_v286, val_main_v287,
    val_main_v288, val_main_v289, val_main_v290]
  rw [sample_eq x0 x1 x2 h r]
  rfl

/-- The sample times as the result lays them out. -/
theorem times_eq (k : Fin 64) (u : Fin 1) : (val_main_v295 (F := Ideal) x0 x1 x2 (ix3 r k u) : EReal)
    = sample (ray x0 r) k (x2 (ix2 r k)) := by
  pointwise [val_main_v295]
  exact sample_eq x0 x1 x2 h r k

/-- Which rays have wide bins. -/
theorem wide_eq : (val_main_v294 (F := Ideal) x0 x1 (ix1 r) : BitVec 1) = wide (ray x0 r) := by
  pointwise [val_main_v291, val_main_cst_13, val_main_v292, val_main_v293, val_main_v294]
  rw [width_eq x0 x1 h r]
  rfl

end Cert.Ray.Ref
end
-- ==== Proof.Block.lean ====
/-
  One block of the kernel read at one lane: the rays of a block lie along its lanes, the six numbers of a ray along
  its rows. Each stage of the body is the stated function of the lane's ray.
-/
module

public import proofs.«01_k».proof.Proof.TopTwo
public import proofs.«01_k».proof.Proof.Gen.KernelIdeal.Frame
public import Idealize.ShloMosaic.Lib.Pipeline.ValueKit

@[expose] public section

set_option maxRecDepth 16384

noncomputable section

namespace Cert.Ray.Ker

open Idealize.ShloMosaic Cert.KernelIdeal Cert.KernelIdeal.Gen

/-- The six numbers of the ray at lane `l` of a block. -/
def lane (x0 : Vec Ideal S6x16384 .f32) (l : Fin 16384) : Fin 6 → EReal := fun k => x0 (ix2 k l)

variable (x0 : Vec Ideal S6x16384 .f32) (x1 : Vec Ideal S64x16384 .f32) (u : Fin 1) (l : Fin 16384)

/-- Number 0 of the ray. -/
theorem num_0 : k0_pay41 (F := Ideal) x0 x1 (ix2 u l) = lane x0 l 0 := by
  pointwise [k0_pay41, k0_pay5]
  rfl

/-- Number 1 of the ray. -/
theorem num_1 : k0_pay42 (F := Ideal) x0 x1 (ix2 u l) = lane x0 l 1 := by
  pointwise [k0_pay42, k0_pay6]
  rfl

/-- Number 2 of the ray. -/
theorem num_2 : k0_pay43 (F := Ideal) x0 x1 (ix2 u l) = lane x0 l 2 := by
  pointwise [k0_pay43, k0_pay7]
  rfl

/-- Number 3 of the ray. -/
theorem num_3 : k0_pay44 (F := Ideal) x0 x1 (ix2 u l) = lane x0 l 3 := by
  pointwise [k0_pay44, k0_pay8]
  rfl

/-- Number 4 of the ray. -/
theorem num_4 : k0_pay45 (F := Ideal) x0 x1 (ix2 u l) = lane x0 l 4 := by
  pointwise [k0_pay45, k0_pay9]
  rfl

/-- Number 5 of the ray. -/
theorem num_5 : k0_pay46 (F := Ideal) x0 x1 (ix2 u l) = lane x0 l 5 := by
  pointwise [k0_pay46, k0_pay10]
  rfl

/-- The time of the left plane. -/
theorem hit_left : k0_pay47 (F := Ideal) x0 x1 (ix2 u l) = hit lo (lane x0 l 0) (lane x0 l 3) := by
  pointwise [k0_pay47, k0_pay11, k0_pay5, k0_pay8]
  skip
  rfl

/-- The time of the right plane. -/
theorem hit_right : k0_pay48 (F := Ideal) x0 x1 (ix2 u l) = hit hi (lane x0 l 0) (lane x0 l 3) := by
  pointwise [k0_pay48, k0_pay12, k0_pay5, k0_pay8]
  skip
  rfl

/-- The time of the front plane. -/
theorem hit_front : k0_pay49 (F := Ideal) x0 x1 (ix2 u l) = hit lo (lane x0 l 1) (lane x0 l 4) := by
  pointwise [k0_pay49, k0_pay13, k0_pay6, k0_pay9]
  skip
  rfl

/-- The time of the back plane. -/
theorem hit_back : k0_pay50 (F := Ideal) x0 x1 (ix2 u l) = hit hi (lane x0 l 1) (lane x0 l 4) := by
  pointwise [k0_pay50, k0_pay14, k0_pay6, k0_pay9]
  skip
  rfl

/-- The time of the bottom plane. -/
theorem hit_bottom : k0_pay51 (F := Ideal) x0 x1 (ix2 u l) = hit lo (lane x0 l 2) (lane x0 l 5) := by
  pointwise [k0_pay51, k0_pay15, k0_pay7, k0_pay10]
  skip
  rfl

/-- The time of the up plane. -/
theorem hit_up : k0_pay52 (F := Ideal) x0 x1 (ix2 u l) = hit hi (lane x0 l 2) (lane x0 l 5) := by
  pointwise [k0_pay52, k0_pay16]
  rw [num_2, num_5]
  rfl

/-- Whether the ray meets the left face. -/
theorem mask_left : k0_pay53 (F := Ideal) x0 x1 (ix2 u l)
    = inside (hit lo (lane x0 l 0) (lane x0 l 3)) (lane x0 l 4) (lane x0 l 1)
      &&& inside (hit lo (lane x0 l 0) (lane x0 l 3)) (lane x0 l 5) (lane x0 l 2) := by
  pointwise [k0_pay53, k0_pay17]
  simp only [hit_left, num_1, num_4, num_2, num_5]
  rfl

/-- Whether the ray meets the right face. -/
theorem mask_right : k0_pay54 (F := Ideal) x0 x1 (ix2 u l)
    = inside (hit hi (lane x0 l 0) (lane x0 l 3)) (lane x0 l 4) (lane x0 l 1)
      &&& inside (hit hi (lane x0 l 0) (lane x0 l 3)) (lane x0 l 5) (lane x0 l 2) := by
  pointwise [k0_pay54, k0_pay18]
  simp only [hit_right, num_1, num_4, num_2, num_5]
  rfl

/-- Whether the ray meets the front face. -/
theorem mask_front : k0_pay55 (F := Ideal) x0 x1 (ix2 u l)
    = inside (hit lo (lane x0 l 1) (lane x0 l 4)) (lane x0 l 3) (lane x0 l 0)
      &&& inside (hit lo (lane x0 l 1) (lane x0 l 4)) (lane x0 l 5) (lane x0 l 2) := by
  pointwise [k0_pay55, k0_pay22, k0_pay19, k0_pay20, k0_pay21]
  simp only [hit_front, num_0, num_3, num_2, num_5]
  rfl

/-- Whether the ray meets the back face. -/
theorem mask_back : k0_pay56 (F := Ideal) x0 x1 (ix2 u l)
    = inside (hit hi (lane x0 l 1) (lane x0 l 4)) (lane x0 l 3) (lane x0 l 0)
      &&& inside (hit hi (lane x0 l 1) (lane x0 l 4)) (lane x0 l 5) (lane x0 l 2) := by
  pointwise [k0_pay56, k0_pay23]
  simp only [hit_back, num_0, num_3, num_2, num_5]
  rfl

/-- Whether the ray meets the bottom face. -/
theorem mask_bottom : k0_pay57 (F := Ideal) x0 x1 (ix2 u l)
    = inside (hit lo (lane x0 l 2) (lane x0 l 5)) (lane x0 l 3) (lane x0 l 0)
      &&& inside (hit lo (lane x0 l 2) (lane x0 l 5)) (lane x0 l 4) (lane x0 l 1) := by
  pointwise [k0_pay57, k0_pay24]
  simp only [hit_bottom, num_0, num_3, num_1, num_4]
  rfl

/-- Half of whether the ray meets the up face. -/
theorem mask_up0 : k0_pay58 (F := Ideal) x0 x1 (ix2 u l) = inside (hit hi (lane x0 l 2) (lane x0 l 5)) (lane x0 l 3) (lane x0 l 0) := by
  pointwise [k0_pay58, k0_pay25]
  simp only [hit_up, num_0, num_3]
  rfl

/-- Half of whether the ray meets the up face. -/
theorem mask_up1 : k0_pay59 (F := Ideal) x0 x1 (ix2 u l) = inside (hit hi (lane x0 l 2) (lane x0 l 5)) (lane x0 l 4) (lane x0 l 1) := by
  pointwise [k0_pay59, k0_pay26]
  simp only [hit_up, num_1, num_4]
  rfl

/-- The time kept for the left face. -/
theorem time_left : k0_pay27 (F := Ideal) (k0_pay47 x0 x1) (k0_pay53 x0 x1) (ix2 u l) = times (lane x0 l) 0 := by
  pointwise [k0_pay27]
  rw [hit_left, mask_left]
  rfl

/-- The time kept for the right face. -/
theorem time_right : k0_pay28 (F := Ideal) (k0_pay48 x0 x1) (k0_pay54 x0 x1) (ix2 u l) = times (lane x0 l) 1 := by
  pointwise [k0_pay28]
  rw [hit_right, mask_right]
  rfl

/-- The time kept for the front face. -/
theorem time_front : k0_pay29 (F := Ideal) (k0_pay49 x0 x1) (k0_pay55 x0 x1) (ix2 u l) = times (lane x0 l) 2 := by
  pointwise [k0_pay29]
  rw [hit_front, mask_front]
  rfl

/-- The time kept for the back face. -/
theorem time_back : k0_pay30 (F := Ideal) (k0_pay50 x0 x1) (k0_pay56 x0 x1) (ix2 u l) = times (lane x0 l) 3 := by
  pointwise [k0_pay30]
  rw [hit_back, mask_back]
  rfl

/-- The time kept for the bottom face. -/
theorem time_bottom : k0_pay31 (F := Ideal) (k0_pay51 x0 x1) (k0_pay57 x0 x1) (ix2 u l) = times (lane x0 l) 4 := by
  pointwise [k0_pay31]
  rw [hit_bottom, mask_bottom]
  rfl

/-- The time kept for the up face. -/
theorem time_up : k0_pay32 (F := Ideal) (k0_pay52 x0 x1) (k0_pay58 x0 x1) (k0_pay59 x0 x1) (ix2 u l) = times (lane x0 l) 5 := by
  pointwise [k0_pay32]
  rw [hit_up, mask_up0, mask_up1]
  rfl

/-- The second greatest of the six times. -/
theorem start_eq : k0_pay60 (F := Ideal) x0 x1 (ix2 u l) = start (lane x0 l) := by
  pointwise [k0_pay60, k0_pay37, k0_pay33, k0_pay34, k0_pay35, k0_pay36]
  simp only [time_left, time_right, time_front, time_back, time_bottom, time_up]
  unfold start
  rw [topTwo_eq]
  rfl

/-- The width of the bins. -/
theorem width_eq : k0_pay38 (F := Ideal) (k0_pay47 x0 x1) (k0_pay48 x0 x1) (k0_pay49 x0 x1) (k0_pay50 x0 x1) (k0_pay51 x0 x1) (k0_pay52 x0 x1) (k0_pay53 x0 x1) (k0_pay54 x0 x1) (k0_pay55 x0 x1) (k0_pay56 x0 x1) (k0_pay57 x0 x1) (k0_pay58 x0 x1) (k0_pay59 x0 x1) (ix2 u l) = width (lane x0 l) := by
  have hs := start_eq x0 x1 u l
  unfold k0_pay60 at hs
  pointwise [k0_pay38, k0_pay33, k0_pay34, k0_pay35, k0_pay36]
  rw [hs]
  simp only [time_left, time_right, time_front, time_back, time_bottom, time_up]
  unfold width stop
  rw [topTwo_eq]
  rfl

/-- Whether the bins are wide, as a number. -/
theorem wide_eq : k0_pay39 (F := Ideal) (k0_pay47 x0 x1) (k0_pay48 x0 x1) (k0_pay49 x0 x1) (k0_pay50 x0 x1) (k0_pay51 x0 x1) (k0_pay52 x0 x1) (k0_pay53 x0 x1) (k0_pay54 x0 x1) (k0_pay55 x0 x1) (k0_pay56 x0 x1) (k0_pay57 x0 x1) (k0_pay58 x0 x1) (k0_pay59 x0 x1) (ix2 u l)
    = FloatOps.sitofp (F := Ideal) .f32 ((wide (lane x0 l)).setWidth 32) := by
  pointwise [k0_pay39]
  rw [width_eq]
  rfl

/-- The sample times. -/
theorem sample_eq (k : Fin 64) : k0_pay1 (F := Ideal) (k0_pay60 x0 x1) (k0_pay61 x0 x1) (ix2 k l)
    = sample (lane x0 l) k (x1 (ix2 k l)) := by
  pointwise [k0_pay1, k0_pay61, k0_pay40]
  rw [width_eq, start_eq]
  rfl

/-- Coordinate 0 of the sample points. -/
theorem point_0 (k : Fin 64) : k0_pay2 (F := Ideal) (k0_pay41 x0 x1) (k0_pay44 x0 x1) (k0_pay60 x0 x1) (k0_pay61 x0 x1) (ix2 k l)
    = sample (lane x0 l) k (x1 (ix2 k l)) * lane x0 l 3 + lane x0 l 0 := by
  pointwise [k0_pay2]
  rw [sample_eq, num_0, num_3]

/-- Coordinate 1 of the sample points. -/
theorem point_1 (k : Fin 64) : k0_pay3 (F := Ideal) (k0_pay42 x0 x1) (k0_pay45 x0 x1) (k0_pay60 x0 x1) (k0_pay61 x0 x1) (ix2 k l)
    = sample (lane x0 l) k (x1 (ix2 k l)) * lane x0 l 4 + lane x0 l 1 := by
  pointwise [k0_pay3]
  rw [sample_eq, num_1, num_4]

/-- Coordinate 2 of the sample points. -/
theorem point_2 (k : Fin 64) : k0_pay4 (F := Ideal) (k0_pay43 x0 x1) (k0_pay46 x0 x1) (k0_pay60 x0 x1) (k0_pay61 x0 x1) (ix2 k l)
    = sample (lane x0 l) k (x1 (ix2 k l)) * lane x0 l 5 + lane x0 l 2 := by
  pointwise [k0_pay4]
  rw [sample_eq, num_2, num_5]

end Cert.Ray.Ker
end
-- ==== Proof.Arrays.lean ====
/-
  The kernel's three output arrays after the whole grid: each point writes the lanes of its own block, and the blocks
  cover the arrays.
-/
module

public import proofs.«01_k».proof.Proof.Block

@[expose] public section

set_option maxRecDepth 16384

noncomputable section

namespace Cert.Ray.Ker

open Idealize.ShloMosaic Idealize.ShloMosaic.TcCoe Idealize.SL.Sem Cert.KernelIdeal Cert.KernelIdeal.Gen

variable (m : (ℓ : Loc nD τ sig) → Buf (Elt Ideal) ℓ)

/-- The array of rays. -/
def rays (c : Dev nD) : S65536x6.Idx → EReal := m ((c : Thread nD τ).loc main_arg0)
/-- The array of fractions of the bins. -/
def fracs (c : Dev nD) : S65536x64.Idx → EReal := m ((c : Thread nD τ).loc main_arg2)

/-- Which block each window takes at a point of the grid. -/
theorem idx : ∀ t : Fin cfg0.N, win0_0.index t = ![0, t.val] ∧ win0_1.index t = ![0, t.val] ∧ win0_2.index t = ![0, t.val]
    ∧ win0_3.index t = ![0, t.val] ∧ win0_4.index t = ![0, t.val] :=
  (by decide +kernel : ∀ t : Fin grid0.N, _)

/-- The rays as the kernel takes them: transposed. -/
theorem entry_rays (c : Dev nD) (k : Fin 6) (r : Fin 65536) :
    V m c main_call0_v0 (ix2 k r) = ray (rays m c) r k := by
  entry_read
  rw [List.flatten_cons, List.flatten_nil, List.append_nil]
  unfold hostOps0
  after_results
  show transpose S6x65536 [1, 0] (rays m c) transposes_S65536x6_S6x65536_1_0 (ix2 k r) = _
  pointwise
  try rfl

/-- The fractions as the kernel takes them: transposed. -/
theorem entry_fracs (c : Dev nD) (k : Fin 64) (r : Fin 65536) :
    V m c main_call0_v1 (ix2 k r) = fracs m c (ix2 r k) := by
  entry_read
  rw [List.flatten_cons, List.flatten_nil, List.append_nil]
  unfold hostOps0
  after_results
  show transpose S64x65536 [1, 0] (fracs m c) transposes_S65536x64_S64x65536_1_0 (ix2 k r) = _
  pointwise
  try rfl

/-- The ray at a lane of a point's block. -/
theorem lane_block (c : Dev nD) (t : Fin cfg0.N) (l : Fin 16384) (r : Fin 65536) (hr : r.val = t.val * 16384 + l.val) :
    lane (iblk m c 0 t) l = ray (rays m c) r := by
  funext k
  show iblk m c 0 t (ix2 k l) = _
  rw [← entry_rays]
  blk_ext [iblk, idx t]

/-- The fractions at a lane of a point's block. -/
theorem frac_block (c : Dev nD) (t : Fin cfg0.N) (k : Fin 64) (l : Fin 16384) (r : Fin 65536) (hr : r.val = t.val * 16384 + l.val) :
    iblk m c 1 t (ix2 k l) = fracs m c (ix2 r k) := by
  rw [← entry_fracs]
  blk_ext [iblk, idx t]

/-- The array of the sample times, a row for each bin. -/
def gTimes (c : Dev nD) : S64x65536.Idx → EReal := fun i =>
  sample (ray (rays m c) (i 1)) (i 0) (fracs m c (ix2 (i 1) (i 0)))

/-- The array of the sample points, a row for each coordinate and bin. -/
def gPoints (c : Dev nD) : S192x65536.Idx → EReal := fun i =>
  gTimes m c (ix2 ⟨(i 0).val % 64, Nat.mod_lt _ (by decide)⟩ (i 1))
    * ray (rays m c) (i 1) ⟨3 + (i 0).val / 64, by have h : (i 0).val < 192 := (i 0).isLt; omega⟩
    + ray (rays m c) (i 1) ⟨(i 0).val / 64, by have h : (i 0).val < 192 := (i 0).isLt; omega⟩

/-- The array that says whether a ray's bins are wide, as numbers. -/
def gWide (c : Dev nD) : S1x65536.Idx → EReal := fun i =>
  FloatOps.sitofp (F := Ideal) .f32 ((wide (ray (rays m c) (i 1))).setWidth 32)

/-- The sample times' array after the grid. -/
theorem final_times (c : Dev nD) : (dats m 0 c).arrAt 2 (cfgs 0).N = gTimes m c := by
  refine (dats m 0 c).arrAt_eq_of_covers 2 _ (by decide +kernel) fun t _ y => ?_
  have ht : t.val < 4 := lt_of_lt_of_eq t.isLt N_0
  blk_simp
  rw [after0_2]
  frame_out
  idx_vars y
  have e : ((View.whole main_call0_v2_0).slice (win0_2.rect t)).emb (ix2 y0 y1) = ix2 y0 (⟨t.val * 16384 + y1.val, by omega⟩ : Fin 65536) := by
    blk_ext [idx t]
  rw [e, sample_eq, lane_block m c t y1 ⟨t.val * 16384 + y1.val, by omega⟩ rfl, frac_block m c t y0 y1 ⟨t.val * 16384 + y1.val, by omega⟩ rfl]
  rfl

/-- The array of wide bins after the grid. -/
theorem final_wide (c : Dev nD) : (dats m 0 c).arrAt 4 (cfgs 0).N = gWide m c := by
  refine (dats m 0 c).arrAt_eq_of_covers 4 _ (by decide +kernel) fun t _ y => ?_
  have ht : t.val < 4 := lt_of_lt_of_eq t.isLt N_0
  blk_simp
  rw [after0_4]
  frame_out
  idx_vars y
  have e : ((View.whole main_call0_v2_2).slice (win0_4.rect t)).emb (ix2 y0 y1) = ix2 (0 : Fin 1) (⟨t.val * 16384 + y1.val, by omega⟩ : Fin 65536) := by
    blk_ext [idx t]
  rw [e, wide_eq, lane_block m c t y1 ⟨t.val * 16384 + y1.val, by omega⟩ rfl]
  rfl

/-- The points' array at the row of coordinate `j` and bin `k`. -/
theorem gPoints_at (c : Dev nD) (i : Fin 192) (r : Fin 65536) (j : ℕ) (k : Fin 64) (a b : Fin 6)
    (hi : i.val = 64 * j + k.val) (ha : a.val = 3 + j) (hb : b.val = j) :
    gPoints m c (ix2 i r) = sample (ray (rays m c) r) k (fracs m c (ix2 r k)) * ray (rays m c) r a + ray (rays m c) r b := by
  have h3 : i.val / 64 < 3 := Nat.div_lt_of_lt_mul i.isLt
  have hk : (⟨i.val % 64, Nat.mod_lt _ (by decide)⟩ : Fin 64) = k := Fin.ext (by show i.val % 64 = k.val; omega)
  have hA : (⟨3 + i.val / 64, Nat.add_lt_add_left h3 3⟩ : Fin 6) = a := Fin.ext (by show 3 + i.val / 64 = a.val; omega)
  have hB : (⟨i.val / 64, h3.trans (by decide)⟩ : Fin 6) = b := Fin.ext (by show i.val / 64 = b.val; omega)
  rw [← hk, ← hA, ← hB]
  rfl

/-- The sample points' array after the grid. -/
theorem final_points (c : Dev nD) : (dats m 0 c).arrAt 3 (cfgs 0).N = gPoints m c := by
  refine (dats m 0 c).arrAt_eq_of_covers 3 _ (by decide +kernel) fun t _ y => ?_
  have ht : t.val < 4 := lt_of_lt_of_eq t.isLt N_0
  blk_simp
  rw [after0_3]
  unfold out0_3
  canon_tiles x h
  · idx_vars x
    have e : (win0_3.blk t).view.emb y
        = ix2 (⟨128 + x0.val, by omega⟩ : Fin 192) (⟨t.val * 16384 + x1.val, by omega⟩ : Fin 65536) := by
      blk_ext [idx t]
    rw [e, point_2, lane_block m c t x1 ⟨t.val * 16384 + x1.val, by omega⟩ rfl,
      frac_block m c t x0 x1 ⟨t.val * 16384 + x1.val, by omega⟩ rfl]
    exact (gPoints_at m c _ _ 2 x0 5 2 rfl rfl rfl).symm
  · idx_vars x
    have e : (win0_3.blk t).view.emb y
        = ix2 (⟨64 + x0.val, by omega⟩ : Fin 192) (⟨t.val * 16384 + x1.val, by omega⟩ : Fin 65536) := by
      blk_ext [idx t]
    rw [e, point_1, lane_block m c t x1 ⟨t.val * 16384 + x1.val, by omega⟩ rfl,
      frac_block m c t x0 x1 ⟨t.val * 16384 + x1.val, by omega⟩ rfl]
    exact (gPoints_at m c _ _ 1 x0 4 1 rfl rfl rfl).symm
  · idx_vars x
    have e : (win0_3.blk t).view.emb y
        = ix2 (⟨0 + x0.val, by omega⟩ : Fin 192) (⟨t.val * 16384 + x1.val, by omega⟩ : Fin 65536) := by
      blk_ext [idx t]
    rw [e, point_0, lane_block m c t x1 ⟨t.val * 16384 + x1.val, by omega⟩ rfl,
      frac_block m c t x0 x1 ⟨t.val * 16384 + x1.val, by omega⟩ rfl]
    exact (gPoints_at m c _ _ 0 x0 3 0 rfl rfl rfl).symm

end Cert.Ray.Ker
end
-- ==== Proof.Tail.lean ====
/-
  The kernel's three results: the output arrays as the host lays them out after the grid.
-/
module

public import proofs.«01_k».proof.Proof.Arrays

@[expose] public section

set_option maxRecDepth 16384

noncomputable section

namespace Cert.Ray.Ker

open Idealize.ShloMosaic Idealize.ShloMosaic.TcCoe Idealize.SL.Sem Cert.KernelIdeal Cert.KernelIdeal.Gen

variable (m : (ℓ : Loc nD τ sig) → Buf (Elt Ideal) ℓ)

/-- No two windows have the same array. -/
theorem arrays_differ : Function.Injective (Pipeline.arrRef spec0) := by decide

/-- The buffers when the grid is done. -/
def exit (c : Dev nD) : Valuation τ sig (Elt Ideal) :=
  Pipeline.withArrays (cfgs 0).spec c (V0 m c) fun w => (dats m 0 c).arrAt w (cfgs 0).N

/-- The sample times' array when the grid is done. -/
theorem exit_times (c : Dev nD) : exit m c (Proc.devRef .tc main_call0_v2_0) = gTimes m c :=
  (Pipeline.withArrays_arr spec0 arrays_differ c (V0 m c) (fun w => (dats m 0 c).arrAt w (cfgs 0).N) 2).trans (final_times m c)

/-- The sample points' array when the grid is done. -/
theorem exit_points (c : Dev nD) : exit m c (Proc.devRef .tc main_call0_v2_1) = gPoints m c :=
  (Pipeline.withArrays_arr spec0 arrays_differ c (V0 m c) (fun w => (dats m 0 c).arrAt w (cfgs 0).N) 3).trans (final_points m c)

/-- The array of wide bins when the grid is done. -/
theorem exit_wide (c : Dev nD) : exit m c (Proc.devRef .tc main_call0_v2_2) = gWide m c :=
  (Pipeline.withArrays_arr spec0 arrays_differ c (V0 m c) (fun w => (dats m 0 c).arrAt w (cfgs 0).N) 4).trans (final_wide m c)

/-- The host's last operations leave the sample times turned to a row for each ray. -/
theorem host_times (W : Valuation τ sig (Elt Ideal)) (A : S64x65536.Idx → EReal)
    (hW : W (Proc.devRef .tc main_call0_v2_0) = A) (r : Fin 65536) (k : Fin 64) (u : Fin 1) :
    (StableHlo.after hostOps1 W (Proc.devRef .tc main_v0_0) : S65536x64x1.Idx → EReal) (ix3 r k u) = A (ix2 k r) := by
  unfold hostOps1
  after_results
  rw [hW]
  show shapeCast S65536x64x1 (transpose S65536x64 [1, 0] A transposes_S64x65536_S65536x64_1_0)
    shapeCasts_S65536x64_S65536x64x1 (ix3 r k u) = _
  pointwise

/-- The host's last operations leave the sample points by ray, bin and coordinate. -/
theorem host_points (W : Valuation τ sig (Elt Ideal)) (A : S192x65536.Idx → EReal)
    (hW : W (Proc.devRef .tc main_call0_v2_1) = A) (r : Fin 65536) (k : Fin 64) (j : Fin 3) :
    (StableHlo.after hostOps1 W (Proc.devRef .tc main_v0_1) : S65536x64x3.Idx → EReal) (ix3 r k j)
      = A (ix2 ⟨64 * j.val + k.val, by omega⟩ r) := by
  unfold hostOps1
  after_results
  rw [hW]
  show transpose S65536x64x3 [2, 1, 0] (shapeCast S3x64x65536 A shapeCasts_S192x65536_S3x64x65536)
    transposes_S3x64x65536_S65536x64x3_2_1_0 (ix3 r k j) = _
  pointwise
  refine congrArg (fun i : Fin 192 => A (ix2 i r)) (Fin.ext ?_)
  show j.val * 64 + k.val = 64 * j.val + k.val
  omega

/-- The host's last operations compare the array of wide bins with zero. -/
theorem host_wide (W : Valuation τ sig (Elt Ideal)) (A : S1x65536.Idx → EReal)
    (hW : W (Proc.devRef .tc main_call0_v2_2) = A) (r : Fin 65536) :
    (StableHlo.after hostOps1 W (Proc.devRef .tc main_v0_2) : S65536.Idx → BitVec 1) (ix1 r)
      = Ideal.cmp .ogt (A (ix2 0 r)) 0 := by
  unfold hostOps1
  after_results
  rw [hW]
  show cmpf (F := Ideal) (φ := .f32) .ogt (shapeCast S65536 A shapeCasts_S1x65536_S65536)
    (broadcastInDim S65536 ![] bcast_S_S65536 (constant S_ .f32 0x00000000#32)) (ix1 r) = _
  pointwise

/-- A bit read as a number is over zero exactly when it is set. -/
theorem bit_over_zero (b : BitVec 1) :
    Ideal.cmp .ogt (FloatOps.sitofp (F := Ideal) .f32 (b.setWidth 32) : EReal) 0 = b := by
  have h : b = 0#1 ∨ b = 1#1 := by revert b; decide
  rcases h with rfl | rfl
  · have e : (FloatOps.sitofp (F := Ideal) .f32 ((0#1).setWidth 32) : EReal) = 0 := by
      show ((((0#1).setWidth 32 : BitVec 32).toInt : ℝ) : EReal) = 0
      simp
    rw [e]
    show BitVec.ofBool (decide ((0 : EReal) < 0)) = 0#1
    simp
  · have e : (FloatOps.sitofp (F := Ideal) .f32 ((1#1).setWidth 32) : EReal) = 1 := by
      show ((((1#1).setWidth 32 : BitVec 32).toInt : ℝ) : EReal) = 1
      have : ((1#1).setWidth 32 : BitVec 32).toInt = 1 := by decide
      rw [this]
      simp
    rw [e]
    show BitVec.ofBool (decide ((0 : EReal) < 1)) = 1#1
    simp

/-- The first result of the kernel: the sample times, a row for each ray. -/
theorem out_times (c : Dev nD) (r : Fin 65536) (k : Fin 64) (u : Fin 1) :
    (Pipeline.afterTail₀ cfgs (dats m) 0 (V0 m) [hostOps1] c main_v0_0 : S65536x64x1.Idx → EReal) (ix3 r k u)
      = sample (ray (rays m c) r) k (fracs m c (ix2 r k)) :=
  host_times (exit m c) (gTimes m c) (exit_times m c) r k u

/-- The second result of the kernel: the sample points by ray, bin and coordinate. -/
theorem out_points (c : Dev nD) (r : Fin 65536) (k : Fin 64) (j : Fin 3) (a b : Fin 6)
    (ha : a.val = 3 + j.val) (hb : b.val = j.val) :
    (Pipeline.afterTail₀ cfgs (dats m) 0 (V0 m) [hostOps1] c main_v0_1 : S65536x64x3.Idx → EReal) (ix3 r k j)
      = sample (ray (rays m c) r) k (fracs m c (ix2 r k)) * ray (rays m c) r a + ray (rays m c) r b :=
  (host_points (exit m c) (gPoints m c) (exit_points m c) r k j).trans
    (gPoints_at m c _ r j.val k a b rfl ha hb)

/-- The third result of the kernel: which rays have bins that are wide. -/
theorem out_wide (c : Dev nD) (r : Fin 65536) :
    (Pipeline.afterTail₀ cfgs (dats m) 0 (V0 m) [hostOps1] c main_v0_2 : S65536.Idx → BitVec 1) (ix1 r)
      = wide (ray (rays m c) r) :=
  (host_wide (exit m c) (gWide m c) (exit_wide m c) r).trans (bit_over_zero _)

end Cert.Ray.Ker
end
-- ==== Proof.Equal.lean ====
/-
  The value claim: over the extended reals the kernel and the reference end with equal results.
-/
module

public import proofs.«01_k».proof.Defs
public import proofs.«01_k».proof.Proof.Gen.Pre_unit_cube
public import proofs.«01_k».proof.Proof.Gen.ReferenceIdeal.Run
public import proofs.«01_k».proof.Proof.Gen.ReferenceIdeal.Read
public import proofs.«01_k».proof.Proof.Cube
public import proofs.«01_k».proof.Proof.RefResults
public import proofs.«01_k».proof.Proof.Tail
public import Idealize.ShloMosaic.Adequacy

@[expose] public section

set_option maxRecDepth 16384

noncomputable section

namespace Cert.Ray

open Idealize.ShloMosaic Idealize.ShloMosaic.TcCoe Idealize.SL.Sem

open Cert.KernelIdeal Cert.KernelIdeal.Gen in
/-- What the kernel's run leaves: its three results as the host's last operations give them, and its arguments as
    they were. -/
theorem kernel_run (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v0_0)
            = Pipeline.afterTail₀ cfgs (dats m) 0 (V0 m)
                [hostOps1] c main_v0_0
        ∧ r.2.mem ((c.tc : Thread nD τ).loc main_v0_1)
            = Pipeline.afterTail₀ cfgs (dats m) 0 (V0 m)
                [hostOps1] c main_v0_1
        ∧ r.2.mem ((c.tc : Thread nD τ).loc main_v0_2)
            = Pipeline.afterTail₀ cfgs (dats m) 0 (V0 m)
                [hostOps1] c main_v0_2
        ∧ r.2.mem ((c.tc : Thread nD τ).loc main_arg0)
            = m ((c.tc : Thread nD τ).loc main_arg0)
        ∧ r.2.mem ((c.tc : Thread nD τ).loc main_arg1)
            = m ((c.tc : Thread nD τ).loc main_arg1)
        ∧ r.2.mem ((c.tc : Thread nD τ).loc main_arg2)
            = m ((c.tc : Thread nD τ).loc main_arg2)) :=
  (θ_run defs _ _).mono (fun _ h c =>
    ⟨(h c).2 main_v0_0 (Pipeline.mem_restRefs_of main_v0_0 (by decide) (by decide)),
      (h c).2 main_v0_1 (Pipeline.mem_restRefs_of main_v0_1 (by decide) (by decide)),
      (h c).2 main_v0_2 (Pipeline.mem_restRefs_of main_v0_2 (by decide) (by decide)),
      ((h c).2 main_arg0 (Pipeline.mem_restRefs_of main_arg0 (by decide) (by decide))).trans
        (W_main_arg0 m (dats m) c),
      ((h c).2 main_arg1 (Pipeline.mem_restRefs_of main_arg1 (by decide) (by decide))).trans
        (W_main_arg1 m (dats m) c),
      ((h c).2 main_arg2 (Pipeline.mem_restRefs_of main_arg2 (by decide) (by decide))).trans
        (W_main_arg2 m (dats m) c)⟩)
    (run_main m g)

open Cert.KernelIdeal Cert.KernelIdeal.Gen in
/-- Where the boxes are the cube, the reference's times of the kernel's arguments are the kernel's first result. -/
theorem times_agree (m : (ℓ : Loc nD τ sig) → Buf (Elt Ideal) ℓ) (c : Dev nD) (x1 : (⟨3, ![65536, 8, 3]⟩ : Shape).Idx → EReal)
    (h : ∀ r k j, x1 (ix3 r k j) = Ref.corner k j) :
    Cert.ReferenceIdeal.Read.val_main_v295 (F := Ideal) (Ker.rays m c) x1 (Ker.fracs m c)
      = Pipeline.afterTail₀ cfgs (dats m) 0 (V0 m) [hostOps1] c main_v0_0 := by
  funext i
  idx_vars i
  exact (Ref.times_eq _ x1 _ h _ _ _).trans (Ker.out_times m c _ _ _).symm

open Cert.KernelIdeal Cert.KernelIdeal.Gen in
/-- Where the boxes are the cube, the reference's points of the kernel's arguments are the kernel's second result. -/
theorem points_agree (m : (ℓ : Loc nD τ sig) → Buf (Elt Ideal) ℓ) (c : Dev nD) (x1 : (⟨3, ![65536, 8, 3]⟩ : Shape).Idx → EReal)
    (h : ∀ r k j, x1 (ix3 r k j) = Ref.corner k j) :
    Cert.ReferenceIdeal.Read.val_main_v290 (F := Ideal) (Ker.rays m c) x1 (Ker.fracs m c)
      = Pipeline.afterTail₀ cfgs (dats m) 0 (V0 m) [hostOps1] c main_v0_1 := by
  funext i
  obtain ⟨r, k, j, rfl⟩ : ∃ (r : Fin 65536) (k : Fin 64) (j : Fin 3), i = ix3 r k j := by
    idx_vars i
    exact ⟨_, _, _, rfl⟩
  exact (Ref.points_eq _ x1 _ h r k j ⟨3 + j.val, Nat.add_lt_add_left j.isLt 3⟩ ⟨j.val, j.isLt.trans (by decide)⟩ rfl rfl).trans
    (Ker.out_points m c r k j ⟨3 + j.val, Nat.add_lt_add_left j.isLt 3⟩ ⟨j.val, j.isLt.trans (by decide)⟩ rfl rfl).symm

open Cert.KernelIdeal Cert.KernelIdeal.Gen in
/-- Where the boxes are the cube, the reference's mask of the kernel's arguments is the kernel's third result. -/
theorem wide_agree (m : (ℓ : Loc nD τ sig) → Buf (Elt Ideal) ℓ) (c : Dev nD) (x1 : (⟨3, ![65536, 8, 3]⟩ : Shape).Idx → EReal)
    (h : ∀ r k j, x1 (ix3 r k j) = Ref.corner k j) :
    Cert.ReferenceIdeal.Read.val_main_v294 (F := Ideal) (Ker.rays m c) x1
      = Pipeline.afterTail₀ cfgs (dats m) 0 (V0 m) [hostOps1] c main_v0_2 := by
  funext i
  idx_vars i
  exact (Ref.wide_eq _ x1 h _).trans (Ker.out_wide m c _).symm

/-- Equal arguments give equal values, of two. -/
theorem congrTwo {α β γ : Type} (f : α → β → γ) {a a' : α} {b b' : β} (ha : a = a') (hb : b = b') : f a b = f a' b' := by
  rw [ha, hb]

/-- Equal arguments give equal values, of three. -/
theorem congrThree {α β γ δ : Type} (f : α → β → γ → δ) {a a' : α} {b b' : β} {c c' : γ} (ha : a = a') (hb : b = b')
    (hc : c = c') : f a b c = f a' b' c' := by
  rw [ha, hb, hc]

/-- The value claim, of all three results. -/
theorem results_equal : Cert.algebraic_KernelIdeal_ReferenceIdeal_pre_unit_cube
    (hKernelIdeal := Cert.KernelIdeal.Gen.facts) (hReferenceIdeal := Cert.ReferenceIdeal.Gen.facts)
    (hPre_unit_cube := Cert.Pre_unit_cube.Gen.facts) := by
  intro m g m' g' hpre hargs
  refine ⟨_, _, _, kernel_run m g, (θ_run Cert.ReferenceIdeal.defs _ _).mono ?_ (Cert.ReferenceIdeal.Value.run m' g')⟩
  intro r hr c
  obtain ⟨h0, h1, h2, ha0, ha1, ha2⟩ := hr c
  obtain ⟨e0, e1, e2⟩ := hargs c
  have cube := Ref.corners_of_unit_cube _ _ _ (hpre c)
  refine ⟨?_, ?_, ?_, ha0, ha1, ha2⟩
  · refine (h0.trans (Cert.ReferenceIdeal.Read.val_main_v295_eq (StableHlo.launchContents m' c))).trans ?_
    exact (congrThree (Cert.ReferenceIdeal.Read.val_main_v295 (F := Ideal)) e0 e1 e2).trans (times_agree m c _ cube)
  · refine (h1.trans (Cert.ReferenceIdeal.Read.val_main_v290_eq (StableHlo.launchContents m' c))).trans ?_
    exact (congrThree (Cert.ReferenceIdeal.Read.val_main_v290 (F := Ideal)) e0 e1 e2).trans (points_agree m c _ cube)
  · refine (h2.trans (Cert.ReferenceIdeal.Read.val_main_v294_eq (StableHlo.launchContents m' c))).trans ?_
    exact (congrTwo (Cert.ReferenceIdeal.Read.val_main_v294 (F := Ideal)) e0 e1).trans (wide_agree m c _ cube)

end Cert.Ray
end
-- ==== Proof.lean ====
/- The claims about the ray sampler, assembled. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_unit_cube
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference runs and leaves its arguments as they were, every counter at zero. -/
theorem reference_frame : Cert.quiescent_ReferenceIdeal (hReferenceIdeal := Cert.ReferenceIdeal.Gen.facts) := by
  intro m g _
  refine θ_run_mono (Cert.ReferenceIdeal.Value.run m g) fun r h => ⟨fun c => (h c).2.2.2, ?_⟩
  funext t
  obtain ⟨t, s | s⟩ := t
  · exact s.elim0
  · exact s.elim0

/-- Everything claimed of the ray sampler. -/
theorem claim : Cert.Claim :=
  ⟨Cert.Kernel.Gen.facts, Cert.KernelIdeal.Gen.facts, Cert.ReferenceIdeal.Gen.facts, Cert.Pre_unit_cube.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    Cert.Ray.results_equal⟩

end Cert.Proof

end
